-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S2x4096x4x128 : Shape := ⟨4, ![2, 4096, 4, 128]⟩
abbrev S256x1024 : Shape := ⟨2, ![256, 1024]⟩
abbrev S128x1024 : Shape := ⟨2, ![128, 1024]⟩
abbrev S6x128x1024 : Shape := ⟨3, ![6, 128, 1024]⟩
abbrev S2 : Shape := ⟨1, ![2]⟩
abbrev S6 : Shape := ⟨1, ![6]⟩
abbrev S_ : Shape := ⟨0, ![]⟩
abbrev S1 : Shape := ⟨1, ![1]⟩
abbrev S1x4096x4x128 : Shape := ⟨4, ![1, 4096, 4, 128]⟩
abbrev S4096x4x128 : Shape := ⟨3, ![4096, 4, 128]⟩
abbrev S256x128 : Shape := ⟨2, ![256, 128]⟩
abbrev S1x4096x1x128 : Shape := ⟨4, ![1, 4096, 1, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1x128x1024 : Shape := ⟨3, ![1, 128, 1024]⟩
abbrev S64x1024 : Shape := ⟨2, ![64, 1024]⟩
abbrev S1x64x1024 : Shape := ⟨3, ![1, 64, 1024]⟩
abbrev S32x1024 : Shape := ⟨2, ![32, 1024]⟩
abbrev S1x32x1024 : Shape := ⟨3, ![1, 32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S2x4096x4x128, .f32⟩
  | .local _ .vmem, ⟨5, _⟩ => ⟨S2x4096x4x128, .f32⟩
  | .local _ .vmem, ⟨6, _⟩ => ⟨S256x1024, .f32⟩
  | .local _ .vmem, ⟨7, _⟩ => ⟨S128x1024, .bf16⟩
  | .local _ .vmem, ⟨8, _⟩ => ⟨S6x128x1024, .bf16⟩
  | .local _ .vmem, ⟨9, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.xori v2 c1_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v8 : BitVec 32 := Scalar.xori v2 c3_i32
  let c1_i32_5 : BitVec 32 := 1#32
  let v9 : BitVec 32 := Scalar.muli v8 c1_i32_5
  let v10 : BitVec 32 := Scalar.addi c0_i32_6 v9
  v10.toNat
def k0_dev3 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_8 : BitVec 32 := 1#32
  let v12 : BitVec 32 := Scalar.muli v11 c1_i32_8
  let v13 : BitVec 32 := Scalar.addi c0_i32_9 v12
  v13.toNat
def k0_off1 (d0 : Dev nD) (c0_i32_11 : BitVec 32) : Fin 4 → Nat :=
  let c0_i32_13 : BitVec 32 := 0#32
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v14 : BitVec 32 := Scalar.addi v3 c0_i32_11
  let c0_i32_20 : BitVec 32 := 0#32
  ![0, 0, v14.toNat, 0]
def k0_mult1 (d0 : Dev nD) : BitVec 32 :=
  let c0_i32_205 : BitVec 32 := 0#32
  let c1_i32_203 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let v287 : BitVec 32 := Scalar.subi c1_i32_203 v281
  let c128_i32_204 : BitVec 32 := 128#32
  let v288 : BitVec 32 := Scalar.muli v287 c128_i32_204
  let v289 : BitVec 32 := Scalar.addi c0_i32_205 v288
  v289
def k0_off2 (d0 : Dev nD) : Fin 2 → Nat :=
  let c0_i32_205 : BitVec 32 := 0#32
  let c1_i32_203 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let v287 : BitVec 32 := Scalar.subi c1_i32_203 v281
  let c128_i32_204 : BitVec 32 := 128#32
  let v288 : BitVec 32 := Scalar.muli v287 c128_i32_204
  let v289 : BitVec 32 := Scalar.addi c0_i32_205 v288
  let v290 : BitVec 32 := v289
  let v291 : Index := Scalar.indexCast v290
  let c0_206 : Index := 0#32
  ![v291.toNat, 0]
def k0_dev4 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_201 : BitVec 32 := 3#32
  let v284 : BitVec 32 := Scalar.xori v2 c3_i32_201
  let c1_i32_212 : BitVec 32 := 1#32
  let v297 : BitVec 32 := Scalar.muli v284 c1_i32_212
  let v298 : BitVec 32 := Scalar.addi c0_i32_213 v297
  v298.toNat
def k0_mult2 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  v286
def k0_off3 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let v319 : Index := Scalar.indexCast v318
  let c0_235 : Index := 0#32
  ![v319.toNat, 0]
def k0_mult3 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_241 : BitVec 32 := 1#32
  let c1_i32_197 : BitVec 32 := 1#32
  let v279 : BitVec 32 := Scalar.andi v2 c1_i32_197
  let v332 : BitVec 32 := Scalar.subi c1_i32_241 v279
  let c64_i32_242 : BitVec 32 := 64#32
  let v333 : BitVec 32 := Scalar.muli v332 c64_i32_242
  let v334 : BitVec 32 := Scalar.addi v318 v333
  v334
def k0_off4 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_241 : BitVec 32 := 1#32
  let c1_i32_197 : BitVec 32 := 1#32
  let v279 : BitVec 32 := Scalar.andi v2 c1_i32_197
  let v332 : BitVec 32 := Scalar.subi c1_i32_241 v279
  let c64_i32_242 : BitVec 32 := 64#32
  let v333 : BitVec 32 := Scalar.muli v332 c64_i32_242
  let v334 : BitVec 32 := Scalar.addi v318 v333
  let v335 : BitVec 32 := v334
  let v336 : Index := Scalar.indexCast v335
  let c0_243 : Index := 0#32
  ![v336.toNat, 0]
def k0_dev5 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_240 : BitVec 32 := 1#32
  let v329 : BitVec 32 := Scalar.xori v2 c1_i32_240
  let c1_i32_249 : BitVec 32 := 1#32
  let v342 : BitVec 32 := Scalar.muli v329 c1_i32_249
  let v343 : BitVec 32 := Scalar.addi c0_i32_250 v342
  v343.toNat
def k0_mult4 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  v331
def k0_off5 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let v364 : Index := Scalar.indexCast v363
  let c0_272 : Index := 0#32
  ![v364.toNat, 0]
def k0_mult5 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c1_i32_278 : BitVec 32 := 1#32
  let c2_i32 : BitVec 32 := 2#32
  let v282 : BitVec 32 := Scalar.shrsi v2 c2_i32
  let c1_i32_200 : BitVec 32 := 1#32
  let v283 : BitVec 32 := Scalar.andi v282 c1_i32_200
  let v377 : BitVec 32 := Scalar.subi c1_i32_278 v283
  let c32_i32_279 : BitVec 32 := 32#32
  let v378 : BitVec 32 := Scalar.muli v377 c32_i32_279
  let v379 : BitVec 32 := Scalar.addi v363 v378
  v379
def k0_off6 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c1_i32_278 : BitVec 32 := 1#32
  let c2_i32 : BitVec 32 := 2#32
  let v282 : BitVec 32 := Scalar.shrsi v2 c2_i32
  let c1_i32_200 : BitVec 32 := 1#32
  let v283 : BitVec 32 := Scalar.andi v282 c1_i32_200
  let v377 : BitVec 32 := Scalar.subi c1_i32_278 v283
  let c32_i32_279 : BitVec 32 := 32#32
  let v378 : BitVec 32 := Scalar.muli v377 c32_i32_279
  let v379 : BitVec 32 := Scalar.addi v363 v378
  let v380 : BitVec 32 := v379
  let v381 : Index := Scalar.indexCast v380
  let c0_280 : Index := 0#32
  ![v381.toNat, 0]
def k0_dev6 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_277 : BitVec 32 := 4#32
  let v374 : BitVec 32 := Scalar.xori v2 c4_i32_277
  let c1_i32_286 : BitVec 32 := 1#32
  let v387 : BitVec 32 := Scalar.muli v374 c1_i32_286
  let v388 : BitVec 32 := Scalar.addi c0_i32_287 v387
  v388.toNat
def k0_mult6 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  v376
def k0_off7 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let v409 : Index := Scalar.indexCast v408
  let c0_309 : Index := 0#32
  ![v409.toNat, 0]
def k0_mult7 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  v408
def k0_off8 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let v420 : BitVec 32 := v408
  let v421 : Index := Scalar.indexCast v420
  let c0_315 : Index := 0#32
  ![v421.toNat, 0]
def k0_dev7 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_314 : BitVec 32 := 4#32
  let v419 : BitVec 32 := Scalar.xori v2 c4_i32_314
  let c1_i32_321 : BitVec 32 := 1#32
  let v427 : BitVec 32 := Scalar.muli v419 c1_i32_321
  let v428 : BitVec 32 := Scalar.addi c0_i32_322 v427
  v428.toNat
def k0_mult8 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  v448
def k0_off9 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v453 : Index := Scalar.indexCast v449
  let c0_348 : Index := 0#32
  ![v453.toNat, 0]
def k0_mult9 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  v457
def k0_off10 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  let v459 : BitVec 32 := v457
  let v460 : Index := Scalar.indexCast v459
  let c0_350 : Index := 0#32
  ![v460.toNat, 0]
def k0_dev8 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v458 : BitVec 32 := Scalar.xori v2 c1_i32_349
  let c1_i32_356 : BitVec 32 := 1#32
  let v466 : BitVec 32 := Scalar.muli v458 c1_i32_356
  let v467 : BitVec 32 := Scalar.addi c0_i32_357 v466
  v467.toNat
def k0_mult10 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  let c64_i32_379 : BitVec 32 := 64#32
  let v487 : BitVec 32 := Scalar.xori v457 c64_i32_379
  v487
def k0_off11 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  let c64_i32_379 : BitVec 32 := 64#32
  let v487 : BitVec 32 := Scalar.xori v457 c64_i32_379
  let v488 : BitVec 32 := v487
  let v492 : Index := Scalar.indexCast v488
  let c0_382 : Index := 0#32
  ![v492.toNat, 0]
def k0_mult11 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  let c64_i32_379 : BitVec 32 := 64#32
  let v487 : BitVec 32 := Scalar.xori v457 c64_i32_379
  let v488 : BitVec 32 := v487
  let v496 : BitVec 32 := Scalar.minsi v457 v488
  v496
def k0_off12 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  let c64_i32_379 : BitVec 32 := 64#32
  let v487 : BitVec 32 := Scalar.xori v457 c64_i32_379
  let v488 : BitVec 32 := v487
  let v496 : BitVec 32 := Scalar.minsi v457 v488
  let v498 : BitVec 32 := v496
  let v499 : Index := Scalar.indexCast v498
  let c0_384 : Index := 0#32
  ![v499.toNat, 0]
def k0_dev9 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_383 : BitVec 32 := 3#32
  let v497 : BitVec 32 := Scalar.xori v2 c3_i32_383
  let c1_i32_389 : BitVec 32 := 1#32
  let v505 : BitVec 32 := Scalar.muli v497 c1_i32_389
  let v506 : BitVec 32 := Scalar.addi c0_i32_390 v505
  v506.toNat
def k0_mult12 (d0 : Dev nD) : BitVec 32 :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  let c64_i32_379 : BitVec 32 := 64#32
  let v487 : BitVec 32 := Scalar.xori v457 c64_i32_379
  let v488 : BitVec 32 := v487
  let v496 : BitVec 32 := Scalar.minsi v457 v488
  let c128_i32_412 : BitVec 32 := 128#32
  let v526 : BitVec 32 := Scalar.xori v496 c128_i32_412
  v526
def k0_off13 (d0 : Dev nD) : Fin 2 → Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v280 : BitVec 32 := Scalar.shrsi v2 c1_i32_198
  let c1_i32_199 : BitVec 32 := 1#32
  let v281 : BitVec 32 := Scalar.andi v280 c1_i32_199
  let c128_i32 : BitVec 32 := 128#32
  let v285 : BitVec 32 := Scalar.muli v281 c128_i32
  let v286 : BitVec 32 := Scalar.addi c0_i32_202 v285
  let v318 : BitVec 32 := v286
  let c1_i32_197 : BitVec 32 := 1#32
  let v279 : BitVec 32 := Scalar.andi v2 c1_i32_197
  let c64_i32 : BitVec 32 := 64#32
  let v330 : BitVec 32 := Scalar.muli v279 c64_i32
  let v331 : BitVec 32 := Scalar.addi v318 v330
  let v363 : BitVec 32 := v331
  let c2_i32 : BitVec 32 := 2#32
  let v282 : BitVec 32 := Scalar.shrsi v2 c2_i32
  let c1_i32_200 : BitVec 32 := 1#32
  let v283 : BitVec 32 := Scalar.andi v282 c1_i32_200
  let c32_i32 : BitVec 32 := 32#32
  let v375 : BitVec 32 := Scalar.muli v283 c32_i32
  let v376 : BitVec 32 := Scalar.addi v363 v375
  let v408 : BitVec 32 := v376
  let c32_i32_344 : BitVec 32 := 32#32
  let v448 : BitVec 32 := Scalar.xori v408 c32_i32_344
  let v449 : BitVec 32 := v448
  let v457 : BitVec 32 := Scalar.minsi v408 v449
  let c64_i32_379 : BitVec 32 := 64#32
  let v487 : BitVec 32 := Scalar.xori v457 c64_i32_379
  let v488 : BitVec 32 := v487
  let v496 : BitVec 32 := Scalar.minsi v457 v488
  let c128_i32_412 : BitVec 32 := 128#32
  let v526 : BitVec 32 := Scalar.xori v496 c128_i32_412
  let v527 : BitVec 32 := v526
  let v531 : Index := Scalar.indexCast v527
  let c0_415 : Index := 0#32
  ![v531.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x256x8192 : Shape := ⟨3, ![1, 256, 8192]⟩
abbrev S1x256x64x128 : Shape := ⟨4, ![1, 256, 64, 128]⟩
abbrev S_ : Shape := ⟨0, ![]⟩
abbrev S1x64x256x1 : Shape := ⟨4, ![1, 64, 256, 1]⟩
abbrev S1x1024x64x128 : Shape := ⟨4, ![1, 1024, 64, 128]⟩
abbrev S1x64x256x1024 : Shape := ⟨4, ![1, 64, 256, 1024]⟩
abbrev S1x64x256 : Shape := ⟨3, ![1, 64, 256]⟩
abbrev S1x256x64x1 : Shape := ⟨4, ![1, 256, 64, 1]⟩
abbrev S1x64x128x256 : Shape := ⟨4, ![1, 64, 128, 256]⟩

abbrev nBuf : Space → Nat
  | .hbm => 122
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S1x256x8192, .f32⟩
  | .hbm, ⟨6, _⟩ => ⟨S1x256x64x128, .f32⟩
  | .hbm, ⟨7, _⟩ => ⟨S_, .f32⟩
  | .hbm, ⟨8, _⟩ => ⟨S1x256x64x128, .f32⟩
  | .hbm, ⟨9, _⟩ => ⟨S_, .f32⟩
  | .hbm, ⟨10, _⟩ => ⟨S1x64x256x1, .f32⟩
  | .hbm, ⟨11, _⟩ => ⟨S_, .f32⟩
  | .hbm, ⟨12, _⟩ => ⟨S1x64x256x1, .f32⟩
  | .hbm, ⟨13, _⟩ => ⟨S1x1024x64x128, .f32⟩
  | .hbm, ⟨14, _⟩ => ⟨S1x1024x64x128, .f32⟩
  | .hbm, ⟨15, _⟩ => ⟨S1x64x256x1024, .f32⟩
  | .hbm, ⟨16, _⟩ => ⟨S_, .f32⟩
  | .hbm, ⟨17, _⟩ => ⟨S1x64x256x1024, .f32⟩
  | .hbm, ⟨18, _⟩ => ⟨S1x64x256x1024, .f32⟩
  | .hbm, ⟨19, _⟩ => ⟨S_, .f32⟩
  | .hbm, ⟨20, _⟩ => ⟨S1x64x256, .f32⟩
  | .hbm, ⟨21, _⟩ => ⟨S1x64x256x1, .f32⟩
  | .hbm, ⟨22, _⟩ => ⟨S1x64x256x1, .f32⟩
  | .hbm, ⟨23, _⟩ => ⟨S1x64x256x1, .f32⟩
  | .hbm, ⟨24, _⟩ => ⟨S1x64x256x1, .f32⟩
  | .hbm, ⟨25, _⟩ => ⟨S1x64x256x1024, .f32⟩
  | .hbm, ⟨26, _⟩ => ⟨S1x64x256x1024, .f32⟩
  | .hbm, ⟨27, _⟩ => ⟨S1x64x256x1024, .f32⟩
  | .hbm, ⟨28, _⟩ => ⟨S1x64x256x1, .f32⟩
  | .hbm, ⟨29, _⟩ => ⟨S_, .f32⟩
  | .hbm, ⟨30, _⟩ => ⟨S1x64x256, .f32⟩
  | .hbm, ⟨31, _⟩ => ⟨S1x64x256x1, .f32⟩
  | .hbm, ⟨32, _⟩ => ⟨S1x64x256x1, .f32⟩
  | .hbm, ⟨33, _⟩ => ⟨S1x256x64x1, .f32⟩
  | .hbm, ⟨34, _⟩ => ⟨S1x256x64x128, .f32⟩
  | .hbm, ⟨35, _⟩ => ⟨S1x256x64x128, .f32⟩
  | .hbm, ⟨36, _⟩ => ⟨S1x64x128x256, .f32⟩
  | .hbm, ⟨37, _⟩ => ⟨S1x256x64x128, .f32⟩
  | .hbm, ⟨38, _⟩ => ⟨S1x256x64x128, .f32⟩
  | .hbm, ⟨39, _⟩ => ⟨S1x1024x64x128, .f32⟩
  | .hbm, ⟨40, _⟩ => ⟨S1x1024x64x128, .f32⟩
  | .hbm, ⟨41, _⟩ => ⟨S1x64x256x1024, .f32⟩
  | .hbm, ⟨42, _⟩ => ⟨S_, .f32⟩
  | .hbm, ⟨43, _⟩ => ⟨S1x64x256x1024, .f32⟩
  | .hbm, ⟨44, _⟩ => ⟨S1x64x256x1024, .f32⟩
  | .hbm, ⟨45, _⟩ => ⟨S_, .f32⟩
  | .hbm, ⟨46, _⟩ => ⟨S1x64x256, .f32⟩
  | .hbm, ⟨47, _⟩ => ⟨S1x64x256x1, .f32⟩
  | .hbm, ⟨48, _⟩ => ⟨S1x64x256x1, .f32⟩
  | .hbm, ⟨49, _⟩ => ⟨S1x64x256x1, .f32⟩
  | .hbm, ⟨50, _⟩ => ⟨S1x64x256x1, .f32⟩
  | .hbm, ⟨51, _⟩ => ⟨S1x64x256x1024, .f32⟩
  | .hbm, ⟨52, _⟩ => ⟨S1x64x256x1024, .f32⟩
  | .hbm, ⟨53, _⟩ => ⟨S1x64x256x1024, .f32⟩
  | .hbm, ⟨54, _⟩ => ⟨S1x64x256x1, .f32⟩
  | .hbm, ⟨55, _⟩ => ⟨S_, .f32⟩
  | .hbm, ⟨56, _⟩ => ⟨S1x64x256, .f32⟩
  | .hbm, ⟨57, _⟩ => ⟨S1x64x256x1, .f32⟩
  | .hbm, ⟨58, _⟩ => ⟨S1x64x256x1, .f32⟩
  | .hbm, ⟨59, _⟩ => ⟨S1x256x64x1, .f32⟩
  | .hbm, ⟨60, _⟩ => ⟨S1x256x64x128, .f32⟩
  | .hbm, ⟨61, _⟩ => ⟨S1x256x64x128, .f32⟩
  | .hbm, ⟨62, _⟩ => ⟨S1x64x128x256, .f32⟩
  | .hbm, ⟨63, _⟩ => ⟨S1x256x64x128, .f32⟩
  | .hbm, ⟨64, _⟩ => ⟨S1x256x64x128, .f32⟩
  | .hbm, ⟨65, _⟩ => ⟨S1x1024x64x128, .f32⟩
  | .hbm, ⟨66, _⟩ => ⟨S1x1024x64x128, .f32⟩
  | .hbm, ⟨67, _⟩ => ⟨S1x64x256x1024, .f32⟩
  | .hbm, ⟨68, _⟩ => ⟨S_, .f32⟩
  | .hbm, ⟨69, _⟩ => ⟨S1x64x256x1024, .f32⟩
  | .hbm, ⟨70, _⟩ => ⟨S1x64x256x1024, .f32⟩
  | .hbm, ⟨71, _⟩ => ⟨S_, .f32⟩
  | .hbm, ⟨72, _⟩ => ⟨S1x64x256, .f32⟩
  | .hbm, ⟨73, _⟩ => ⟨S1x64x256x1, .f32⟩
  | .hbm, ⟨74, _⟩ => ⟨S1x64x256x1, .f32⟩
  | .hbm, ⟨75, _⟩ => ⟨S1x64x256x1, .f32⟩
  | .hbm, ⟨76, _⟩ => ⟨S1x64x256x1, .f32⟩
  | .hbm, ⟨77, _⟩ => ⟨S1x64x256x1024, .f32⟩
  | .hbm, ⟨78, _⟩ => ⟨S1x64x256x1024, .f32⟩
  | .hbm, ⟨79, _⟩ => ⟨S1x64x256x1024, .f32⟩
  | .hbm, ⟨80, _⟩ => ⟨S1x64x256x1, .f32⟩
  | .hbm, ⟨81, _⟩ => ⟨S_, .f32⟩
  | .hbm, ⟨82, _⟩ => ⟨S1x64x256, .f32⟩
  | .hbm, ⟨83, _⟩ => ⟨S1x64x256x1, .f32⟩
  | .hbm, ⟨84, _⟩ => ⟨S1x64x256x1, .f32⟩
  | .hbm, ⟨85, _⟩ => ⟨S1x256x64x1, .f32⟩
  | .hbm, ⟨86, _⟩ => ⟨S1x256x64x128, .f32⟩
  | .hbm, ⟨87, _⟩ => ⟨S1x256x64x128, .f32⟩
  | .hbm, ⟨88, _⟩ => ⟨S1x64x128x256, .f32⟩
  | .hbm, ⟨89, _⟩ => ⟨S1x256x64x128, .f32⟩
  | .hbm, ⟨90, _⟩ => ⟨S1x256x64x128, .f32⟩
  | .hbm, ⟨91, _⟩ => ⟨S1x1024x64x128, .f32⟩
  | .hbm, ⟨92, _⟩ => ⟨S1x1024x64x128, .f32⟩
  | .hbm, ⟨93, _⟩ => ⟨S1x64x256x1024, .f32⟩
  | .hbm, ⟨94, _⟩ => ⟨S_, .f32⟩
  | .hbm, ⟨95, _⟩ => ⟨S1x64x256x1024, .f32⟩
  | .hbm, ⟨96, _⟩ => ⟨S1x64x256x1024, .f32⟩
  | .hbm, ⟨97, _⟩ => ⟨S_, .f32⟩
  | .hbm, ⟨98, _⟩ => ⟨S1x64x256, .f32⟩
  | .hbm, ⟨99, _⟩ => ⟨S1x64x256x1, .f32⟩
  | .hbm, ⟨100, _⟩ => ⟨S1x64x256x1, .f32⟩
  | .hbm, ⟨101, _⟩ => ⟨S1x64x256x1, .f32⟩
  | .hbm, ⟨102, _⟩ => ⟨S1x64x256x1, .f32⟩
  | .hbm, ⟨103, _⟩ => ⟨S1x64x256x1024, .f32⟩
  | .hbm, ⟨104, _⟩ => ⟨S1x64x256x1024, .f32⟩
  | .hbm, ⟨105, _⟩ => ⟨S1x64x256x1024, .f32⟩
  | .hbm, ⟨106, _⟩ => ⟨S1x64x256x1, .f32⟩
  | .hbm, ⟨107, _⟩ => ⟨S_, .f32⟩
  | .hbm, ⟨108, _⟩ => ⟨S1x64x256, .f32⟩
  | .hbm, ⟨109, _⟩ => ⟨S1x64x256x1, .f32⟩
  | .hbm, ⟨110, _⟩ => ⟨S1x64x256x1, .f32⟩
  | .hbm, ⟨111, _⟩ => ⟨S1x256x64x1, .f32⟩
  | .hbm, ⟨112, _⟩ => ⟨S1x256x64x128, .f32⟩
  | .hbm, ⟨113, _⟩ => ⟨S1x256x64x128, .f32⟩
  | .hbm, ⟨114, _⟩ => ⟨S1x64x128x256, .f32⟩
  | .hbm, ⟨115, _⟩ => ⟨S1x256x64x128, .f32⟩
  | .hbm, ⟨116, _⟩ => ⟨S1x256x64x128, .f32⟩
  | .hbm, ⟨117, _⟩ => ⟨S1x256x64x1, .f32⟩
  | .hbm, ⟨118, _⟩ => ⟨S1x256x64x128, .f32⟩
  | .hbm, ⟨119, _⟩ => ⟨S1x256x64x128, .f32⟩
  | .hbm, ⟨120, _⟩ => ⟨S1x256x8192, .f32⟩
  | .hbm, ⟨121, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.KernelIdealProtocol.lean ====
/-
# The exchange protocol of the tensor-parallel attention kernel

Eight devices sum their partial products by six pairwise exchanges (a reduce-scatter in three steps and an all-gather in
three). Device `c` exchanges with the device whose number differs from its own in the bits of a mask: 3, 1, 4, 4, 1, 3 in
rounds 0 … 5. Before anything else each device tells its three partners, on the runtime's barrier semaphore, that it has
entered the kernel: with that signal it hands the partner the two landing slots the partner will write.

This module fixes the landing slots, the semaphore cells, the schedule of duties and payloads, what each device owes at
launch and the levels that rule out a deadlock. What travels in round `r` is a parameter `snt`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds, the counters of local transfers -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Partners -/

/-- The three masks: 3, 1, 4. -/
def mask : Fin 3 → ℕ := ![3, 1, 4]
/-- The mask used in each round: 3, 1, 4, 4, 1, 3. -/
def mk : Fin 6 → Fin 3 := ![0, 1, 2, 2, 1, 0]
/-- The first and the second round that use a mask. -/
def lo : Fin 3 → Fin 6 := ![0, 1, 2]
def hi : Fin 3 → Fin 6 := ![5, 4, 3]

set_option backward.proofsInPublic true in
/-- The device whose number differs from `c`'s in the bits of mask `d`. -/
def pr (d : Fin 3) (c : Dev nD) : Dev nD := ⟨(c.val ^^^ mask d) % 8, Nat.mod_lt _ (by decide)⟩

theorem pr_pr : ∀ (d : Fin 3) (c : Dev nD), pr d (pr d c) = c := by decide +kernel
theorem pr_inj {d : Fin 3} {a b : Dev nD} : pr d a = b ↔ a = pr d b :=
  ⟨fun h => by rw [← h, pr_pr], fun h => by rw [h, pr_pr]⟩
theorem mk_lo : ∀ d, mk (lo d) = d := by decide
theorem mk_hi : ∀ d, mk (hi d) = d := by decide

/-- Exchanging with a partner is a bijection of the devices. -/
def swap (d : Fin 3) : Dev nD ≃ Dev nD := ⟨pr d, pr d, pr_pr d, pr_pr d⟩

theorem dev1_eq : ∀ c : Dev nD, (⟨k0_dev1 c, k0_dev1_lt c⟩ : Dev nD) = pr 1 c := by decide +kernel
theorem dev2_eq : ∀ c : Dev nD, (⟨k0_dev2 c, k0_dev2_lt c⟩ : Dev nD) = pr 0 c := by decide +kernel
theorem dev3_eq : ∀ c : Dev nD, (⟨k0_dev3 c, k0_dev3_lt c⟩ : Dev nD) = pr 2 c := by decide +kernel
theorem dev4_eq : ∀ c : Dev nD, (⟨k0_dev4 c, k0_dev4_lt c⟩ : Dev nD) = pr (mk 0) c := by decide +kernel
theorem dev5_eq : ∀ c : Dev nD, (⟨k0_dev5 c, k0_dev5_lt c⟩ : Dev nD) = pr (mk 1) c := by decide +kernel
theorem dev6_eq : ∀ c : Dev nD, (⟨k0_dev6 c, k0_dev6_lt c⟩ : Dev nD) = pr (mk 2) c := by decide +kernel
theorem dev7_eq : ∀ c : Dev nD, (⟨k0_dev7 c, k0_dev7_lt c⟩ : Dev nD) = pr (mk 3) c := by decide +kernel
theorem dev8_eq : ∀ c : Dev nD, (⟨k0_dev8 c, k0_dev8_lt c⟩ : Dev nD) = pr (mk 4) c := by decide +kernel
theorem dev9_eq : ∀ c : Dev nD, (⟨k0_dev9 c, k0_dev9_lt c⟩ : Dev nD) = pr (mk 5) c := by decide +kernel

/-! ## The landing slots and the blocks sent -/

/-- How many rows round `r` moves. -/
abbrev half : Fin 6 → ℕ := ![128, 64, 32, 32, 64, 128]
/-- The block round `r` moves. -/
abbrev sh (r : Fin 6) : Shape := ⟨2, ![half r, 1024]⟩
abbrev sh1 (r : Fin 6) : Shape := ⟨3, ![1, half r, 1024]⟩

theorem slot_inb : ∀ (r : Fin 6) (a : Fin 3), (![r.val, 0, 0] : Fin 3 → ℕ) a + (sh1 r).size a ≤ S6x128x1024.size a := by decide +kernel
theorem sent_inb : ∀ (r : Fin 6) (a : Fin 2), (![0, 0] : Fin 2 → ℕ) a + (sh r).size a ≤ S128x1024.size a := by decide +kernel
theorem slot_sq : ∀ r : Fin 6, (sh1 r).Squeezes (sh r) := by decide +kernel

abbrev accM : Memref sig .tc .vmem S256x1024 .f32 := Memref.whole cc0_scratch2
abbrev sndM : Memref sig .tc .vmem S128x1024 .bf16 := Memref.whole cc0_scratch3
abbrev rcvM : Memref sig .tc .vmem S6x128x1024 .bf16 := Memref.whole cc0_scratch4

/-- The part of the receive buffer round `r` writes. -/
abbrev slotM (r : Fin 6) : Memref sig .tc .vmem (sh r) .bf16 :=
  (rcvM.slice (Rect.unit (s := S6x128x1024) ![r.val, 0, 0] (sh1 r).size (slot_inb r)) (fun _ => rfl)).squeeze (sh r) (slot_sq r)
/-- The part of the send buffer round `r` reads. -/
abbrev sentM (r : Fin 6) : Memref sig .tc .vmem (sh r) .bf16 :=
  sndM.slice (Rect.unit (s := S128x1024) ![0, 0] (sh r).size (sent_inb r)) (fun _ => rfl)

/-- The credit of round `r`'s transfer. -/
abbrev N (r : Fin 6) : ℕ := (slotM r).view.dmaCredit
theorem N_pos (r : Fin 6) : 0 < N r := View.dmaCredit_pos _ (by revert r; decide +kernel)

/-! ## The cells -/

theorem sem_inb : ∀ (r : Fin 6) (a : Fin 1), (![r.val] : Fin 1 → ℕ) a + S1.size a ≤ S6.size a := by decide

abbrev barS : Sem sig := (SemArray.scalar (sig.barrier 0 rfl) : Sems sig S_).sem
abbrev sendS (r : Fin 6) : DmaSem sig := ((cc0_scratch8.slice (Rect.unit (s := S6) ![r.val] S1.size (sem_inb r))).squeeze S_ squeezes_S1_S_).sem
abbrev recvS (r : Fin 6) : DmaSem sig := ((cc0_scratch9.slice (Rect.unit (s := S6) ![r.val] S1.size (sem_inb r))).squeeze S_ squeezes_S1_S_).sem

/-- A device's thirteen cells of the protocol: its barrier, its send cells (`false`) and its receive cells (`true`). -/
abbrev CK : Type := Option (Bool × Fin 6)

def csem : CK → SemLoc sig
  | none => .reg barS
  | some (false, r) => .dma (sendS r)
  | some (true, r) => .dma (recvS r)

abbrev kcell (ck : Dev nD × CK) : GSem nD τ sig := ((ck.1 : Thread nD τ), csem ck.2)
abbrev barCell (c : Dev nD) : GSem nD τ sig := ((c : Thread nD τ), .reg barS)
abbrev sendCell (c : Dev nD) (r : Fin 6) : GSem nD τ sig := ((c : Thread nD τ), .dma (sendS r))
abbrev recvCell (c : Dev nD) (r : Fin 6) : GSem nD τ sig := ((c : Thread nD τ), .dma (recvS r))

/-- All names of cells, and the name of a semaphore's cell if it has one. -/
def ckList : List CK :=
  none :: (List.finRange 6).map (fun r => some (false, r)) ++ (List.finRange 6).map (fun r => some (true, r))
def dec (s : SemLoc sig) : Option CK := ckList.find? fun k => decide (csem k = s)

theorem dec_csem : ∀ k : CK, dec (csem k) = some k := by decide +kernel
theorem dec_bar : dec (.reg barS) = some none := dec_csem none
theorem dec_send (r : Fin 6) : dec (.dma (sendS r)) = some (some (false, r)) := dec_csem (some (false, r))
theorem dec_recv (r : Fin 6) : dec (.dma (recvS r)) = some (some (true, r)) := dec_csem (some (true, r))

theorem csem_injective : Function.Injective csem := fun a b h => by
  have := congrArg dec h
  rw [dec_csem, dec_csem] at this
  exact Option.some.inj this
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The schedule -/

/-- Round `r`'s landing slot on device `p`. -/
def slotPts (r : Fin 6) (p : Dev nD) (f : Buf (Elt F) ((slotM r).view.loc (p : Thread nD τ))) : sProp 𝕄 :=
  (slotM r).view.loc (p : Thread nD τ) ↦[(slotM r).view.set]{fullShare} f
/-- Round `r`'s part of the send buffer on device `c`. -/
def sentPts (r : Fin 6) (c : Dev nD) (f : Buf (Elt F) ((sentM r).view.loc (c : Thread nD τ))) : sProp 𝕄 :=
  (sentM r).view.loc (c : Thread nD τ) ↦[(sentM r).view.set]{fullShare} f

instance slotPts_storable (r : Fin 6) (p : Dev nD) (f) : BI.Storable (upEmb : UEmb _ 𝕄) (slotPts (F := F) r p f) := by
  unfold slotPts; infer_instance
instance sentPts_storable (r : Fin 6) (c : Dev nD) (f) : BI.Storable (upEmb : UEmb _ 𝕄) (sentPts (F := F) r c f) := by
  unfold sentPts; infer_instance

variable (snt : (r : Fin 6) → Dev nD → (sh r).Idx → Elt F .bf16)

/-- What the partner under mask `d` hands `c` with its entry signal: the partner's two slots for rounds with that mask. -/
def barPay (d : Fin 3) (c : Dev nD) : sProp 𝕄 :=
  iprop((∃ f, slotPts (F := F) (lo d) (pr d c) f) ∗ (∃ f, slotPts (F := F) (hi d) (pr d c) f))
/-- A send cell gives the sender its part of the send buffer back. -/
def sendPay (r : Fin 6) (c : Dev nD) : sProp 𝕄 := iprop(∃ f, sentPts (F := F) r c f)
/-- A receive cell gives the receiver its slot, holding what its partner sent. -/
def recvPay (r : Fin 6) (c : Dev nD) : sProp 𝕄 :=
  iprop(∃ f, slotPts (F := F) r c ((slotM r).view.write (Elt F) f (snt r (pr (mk r) c)) Finset.univ))

/-- One round of duties: a barrier cell has three of one unit, a send or receive cell one of the transfer's credit. -/
def Rd : Rounds.Schedule (GSem nD τ sig) (Fin 3) 𝕄 where
  duties g n := if n = 0 ∧ g.1.2 = .tc then
      (match dec g.2 with | some none => Finset.univ | some (some _) => {0} | none => ∅) else ∅
  unitless _ := False
  amount g _ _ := match dec g.2 with | some (some (_, r)) => N r | _ => 1
  payload g _ d := match dec g.2 with
    | some none => barPay d g.1.1
    | some (some (false, r)) => sendPay r g.1.1
    | some (some (true, r)) => recvPay snt r g.1.1
    | none => iprop(emp)
  amount_pos g _ _ _ := by
    split
    · exact N_pos _
    · exact Nat.one_pos

instance Rd_storable (g : GSem nD τ sig) (n : ℕ) (d : Fin 3) : BI.Storable (upEmb : UEmb _ 𝕄) ((Rd (F := F) snt).payload g n d) := by
  show BI.Storable upEmb (match dec g.2 with
    | some none => barPay d g.1.1
    | some (some (false, r)) => sendPay r g.1.1
    | some (some (true, r)) => recvPay snt r g.1.1
    | none => iprop(emp))
  unfold barPay recvPay sendPay
  split <;> infer_instance

section Sched
variable (c : Dev nD) (r : Fin 6) (d : Fin 3)

theorem duties_bar : (Rd (F := F) snt).duties (barCell c) 0 = Finset.univ := by
  dsimp only [Rd]; rw [if_pos ⟨rfl, rfl⟩, dec_bar]
theorem duties_send : (Rd (F := F) snt).duties (sendCell c r) 0 = {0} := by
  dsimp only [Rd]; rw [if_pos ⟨rfl, rfl⟩, dec_send]
theorem duties_recv : (Rd (F := F) snt).duties (recvCell c r) 0 = {0} := by
  dsimp only [Rd]; rw [if_pos ⟨rfl, rfl⟩, dec_recv]
theorem duties_later (g : GSem nD τ sig) : ∀ n, 1 ≤ n → (Rd (F := F) snt).duties g n = ∅ :=
  fun n hn => by dsimp only [Rd]; rw [if_neg fun h => by omega]

theorem amount_bar : (Rd (F := F) snt).amount (barCell c) 0 d = 1 := by dsimp only [Rd]; rw [dec_bar]
theorem amount_send : (Rd (F := F) snt).amount (sendCell c r) 0 d = N r := by dsimp only [Rd]; rw [dec_send]
theorem amount_recv : (Rd (F := F) snt).amount (recvCell c r) 0 d = N r := by dsimp only [Rd]; rw [dec_recv]

theorem expect_bar : (Rd (F := F) snt).expect (barCell c) 0 = 3 := by
  unfold Schedule.expect Schedule.amountOf
  rw [duties_bar, Finset.sum_congr rfl fun d _ => amount_bar snt c d, Finset.sum_const, Finset.card_univ, Fintype.card_fin, smul_eq_mul]
theorem expect_send : (Rd (F := F) snt).expect (sendCell c r) 0 = N r := by
  unfold Schedule.expect Schedule.amountOf; rw [duties_send, Finset.sum_singleton, amount_send]
theorem expect_recv : (Rd (F := F) snt).expect (recvCell c r) 0 = N r := by
  unfold Schedule.expect Schedule.amountOf; rw [duties_recv, Finset.sum_singleton, amount_recv]

theorem payload_bar : (Rd (F := F) snt).payload (barCell c) 0 d = barPay d c := by dsimp only [Rd]; rw [dec_bar]
theorem payload_send : (Rd (F := F) snt).payload (sendCell c r) 0 d = sendPay r c := by dsimp only [Rd]; rw [dec_send]
theorem payload_recv : (Rd (F := F) snt).payload (recvCell c r) 0 d = recvPay snt r c := by dsimp only [Rd]; rw [dec_recv]

/-- The barrier's whole round: the three partners' payloads. -/
theorem rest_bar : bigSep ((Rd (F := F) snt).duties (barCell c) 0 \ ∅) (fun d => (Rd (F := F) snt).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((Rd (F := F) snt).duties (sendCell c r) 0 \ ∅) (fun d => (Rd (F := F) snt).payload (sendCell c r) 0 d) = sendPay r c := by
  rw [Finset.sdiff_empty, duties_send, bigSep_singleton, payload_send]
theorem rest_recv : bigSep ((Rd (F := F) snt).duties (recvCell c r) 0 \ ∅) (fun d => (Rd (F := F) snt).payload (recvCell c r) 0 d) = recvPay snt r c := by
  rw [Finset.sdiff_empty, duties_recv, bigSep_singleton, payload_recv]

end Sched

/-! ## What each device owes, and the levels -/

/-- What device `c` owes the receive cells of its partners for the rounds listed. -/
def oweR (c : Dev nD) : List (Fin 6) → CellTallies nD τ sig Unit
  | [] => 0
  | r :: l => oweR c l + tallyAt (recvCell (pr (mk r) c) r) () (N r)

/-- At launch: the six transfers and the three entry signals, the signals in the order the program sends them. -/
def O₃ (c : Dev nD) : CellTallies nD τ sig Unit := oweR c [0, 1, 2, 3, 4, 5]
def O₂ (c : Dev nD) : CellTallies nD τ sig Unit := O₃ c + tallyAt (barCell (pr 2 c)) () 1
def O₁ (c : Dev nD) : CellTallies nD τ sig Unit := O₂ c + tallyAt (barCell (pr 0 c)) () 1
def O₀ (c : Dev nD) : CellTallies nD τ sig Unit := O₁ c + tallyAt (barCell (pr 1 c)) () 1

def L (g : GSem nD τ sig) : Finset Unit := if g.1.2 = .tc then {()} else ∅
/-- Barrier cells at 1, round `r`'s receive cells at `2 + r`, everything else at 0. -/
def lvS (s : SemLoc sig) : ℕ := match dec s with | some none => 1 | some (some (true, r)) => 2 + r.val | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_bar : lvS (.reg barS) = 1 := by unfold lvS; rw [dec_bar]
theorem lvS_send (r : Fin 6) : lvS (.dma (sendS r)) = 0 := by unfold lvS; rw [dec_send]
theorem lvS_recv (r : Fin 6) : lvS (.dma (recvS r)) = 2 + r.val := by unfold lvS; rw [dec_recv]

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h
theorem add_tally_pos {O : CellTallies nD τ sig Unit} {g g' : GSem nD τ sig} {u : Unit} {n : ℕ}
    (h : 0 < (O + tallyAt g' () n) g u) : 0 < O g u ∨ g = g' := by
  rw [Pi.add_apply, Finsupp.add_apply] at h
  rcases Nat.eq_zero_or_pos (O g u) with h0 | h0
  · rw [h0, Nat.zero_add] at h; exact Or.inr (tally_pos h)
  · exact Or.inl h0

/-- An owed receive credit is that of a round listed. -/
theorem oweR_pos {c : Dev nD} {g : GSem nD τ sig} {u : Unit} : ∀ {l : List (Fin 6)}, 0 < oweR c l g u → ∃ r ∈ l, g = recvCell (pr (mk r) c) r
  | [], h => absurd h (Nat.lt_irrefl 0)
  | r :: l, h => by
    rcases add_tally_pos h with h | h
    · obtain ⟨r', hr', e⟩ := oweR_pos h
      exact ⟨r', List.mem_cons_of_mem _ hr', e⟩
    · exact ⟨r, List.mem_cons_self, h⟩

/-- A wait on a cell below every owed cell is allowed. -/
theorem mayWait_of (c : Dev nD) (sm : SemLoc sig) (O : CellTallies nD τ sig Unit)
    (h : ∀ g u, 0 < O g u → ∃ (c' : Dev nD) (s : SemLoc sig), g = ((c' : Thread nD τ), s) ∧ lvS sm < lvS s) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by obtain ⟨c', s, rfl, -⟩ := h g u hg; exact Finset.mem_singleton_self _)
    (fun p hp => by rw [Finset.mem_singleton.mp hp]; exact Nat.le_refl _)
    (fun g u hg => by obtain ⟨c', s, rfl, hs⟩ := h g u hg; exact hs)

/-- A wait below every receive cell still owed is allowed. -/
theorem mayWait_oweR (c : Dev nD) (sm : SemLoc sig) (l : List (Fin 6)) (h : ∀ r ∈ l, lvS sm < 2 + r.val) :
    (levAts L lv : sProp 𝕄) ⊢ MayWait (c : Thread nD τ) sm () (oweR c l) :=
  mayWait_of c sm _ fun g u hg => by
    obtain ⟨r, hr, rfl⟩ := oweR_pos hg
    exact ⟨_, _, rfl, by rw [lvS_recv]; exact h r hr⟩

/-- A wait at level 0 is allowed whatever of the launch's dues is left. -/
theorem mayWait_zero (c : Dev nD) (sm : SemLoc sig) (h : lvS sm = 0) (O : CellTallies nD τ sig Unit) (hO : O = O₀ c ∨ O = 0) :
    (levAts L lv : sProp 𝕄) ⊢ MayWait (c : Thread nD τ) sm () O := by
  rcases hO with rfl | rfl
  · refine mayWait_of c sm _ fun g u hg => ?_
    rw [h]
    rcases add_tally_pos hg with hg | rfl
    · rcases add_tally_pos hg with hg | rfl
      · rcases add_tally_pos hg with hg | rfl
        · obtain ⟨r, hr, rfl⟩ := oweR_pos hg
          exact ⟨_, _, rfl, by rw [lvS_recv]; omega⟩
        · exact ⟨_, _, rfl, by rw [lvS_bar]; decide⟩
      · exact ⟨_, _, rfl, by rw [lvS_bar]; decide⟩
    · exact ⟨_, _, rfl, by rw [lvS_bar]; decide⟩
  · rw [MayWait_zero]; iintro -; iempintro

end Cert.KernelIdealProof

end
-- ==== Proof.KernelIdealContents.lean ====
/-
# What the kernel's buffers hold

The contents, as the program computes them: the query product, one head's attention output, the device's partial product,
and the accumulator after each of the six exchanges.
-/
module

public import proofs.«01_k».proof.Proof.KernelIdealProtocol
public import Idealize.ShloMosaic.Lib.WritesUnit
public import Idealize.ShloMosaic.Lib.Pipeline.ValueKit.Geometry
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.ShloMosaic.ValueIdx

variable {F : FTy → Type} [FloatOps F]

/-! ## Offsets of the exchanges -/

/-- The first row round `r` sends from the accumulator, and the first row it adds or stores into. -/
def sndOff : (r : Fin 6) → Dev nD → Fin 2 → ℕ
  | 0 => k0_off2 | 1 => k0_off4 | 2 => k0_off6 | 3 => k0_off8 | 4 => k0_off10 | 5 => k0_off12
def kpOff : (r : Fin 6) → Dev nD → Fin 2 → ℕ
  | 0 => k0_off3 | 1 => k0_off5 | 2 => k0_off7 | 3 => k0_off9 | 4 => k0_off11 | 5 => k0_off13

theorem snd_inb : ∀ (r : Fin 6) (c : Dev nD) (a : Fin 2), sndOff r c a + (sh r).size a ≤ S256x1024.size a := by decide +kernel
theorem kp_inb : ∀ (r : Fin 6) (c : Dev nD) (a : Fin 2), kpOff r c a + (sh r).size a ≤ S256x1024.size a := by decide +kernel

abbrev sndRect (r : Fin 6) (c : Dev nD) : Rect S256x1024 := Rect.unit (s := S256x1024) (sndOff r c) (sh r).size (snd_inb r c)
abbrev kpRect (r : Fin 6) (c : Dev nD) : Rect S256x1024 := Rect.unit (s := S256x1024) (kpOff r c) (sh r).size (kp_inb r c)

/-- The accumulator's contents. -/
abbrev Acc (F : FTy → Type) : Type := (cc0_scratch2 : Ref sig .tc).ty.Contents (Elt F)

/-- The block round `r` puts on the wire: the rows read, as bf16. -/
def blk (r : Fin 6) (a : (sh r).Idx → Elt F .f32) : (sh r).Idx → Elt F .bf16 :=
  shapeCast (sh r) (truncf .bf16 (a : FVec F (sh r) .f32) bitsLt_bf16_f32) rfl
/-- What round `r` stores of the rows it kept and the block received: their sum in rounds 0, 1, 2, the block in the rest. -/
def comb (r : Fin 6) (a : (sh r).Idx → Elt F .f32) (b : (sh r).Idx → Elt F .bf16) : (sh r).Idx → Elt F .f32 :=
  if r.val < 3 then shapeCast (sh r) (addf (a : FVec F (sh r) .f32) (extf .f32 (b : FVec F (sh r) .bf16) bitsLt_bf16_f32)) rfl
  else shapeCast (sh r) (extf .f32 (b : FVec F (sh r) .bf16) bitsLt_bf16_f32) rfl

/-- The block device `c` sends in round `r` from accumulator `a`. -/
def sentOf (r : Fin 6) (c : Dev nD) (a : Acc F) : (sh r).Idx → Elt F .bf16 := blk r ((accM.access (sndRect r c)).read (Elt F) a)
/-- The accumulator after storing round `r`'s rows. -/
def stored (r : Fin 6) (c : Dev nD) (a : Acc F) (b : (sh r).Idx → Elt F .bf16) : Acc F :=
  (accM.access (kpRect r c)).write (Elt F) a (comb r ((accM.access (kpRect r c)).read (Elt F) a) b) Finset.univ
/-- One exchange on every device. -/
def step (r : Fin 6) (a : Dev nD → Acc F) (c : Dev nD) : Acc F := stored r c (a c) (sentOf r (pr (mk r) c) (a (pr (mk r) c)))

/-- The accumulators after `n` exchanges from `a`. -/
def accAt (a : Dev nD → Acc F) : ℕ → Dev nD → Acc F
  | 0 => a
  | 1 => step 0 a
  | 2 => step 1 (step 0 a)
  | 3 => step 2 (step 1 (step 0 a))
  | 4 => step 3 (step 2 (step 1 (step 0 a)))
  | 5 => step 4 (step 3 (step 2 (step 1 (step 0 a))))
  | _ => step 5 (step 4 (step 3 (step 2 (step 1 (step 0 a)))))
/-- What device `c` sends in round `r`. -/
def sntAt (a : Dev nD → Acc F) (r : Fin 6) (c : Dev nD) : (sh r).Idx → Elt F .bf16 := sentOf r c (accAt a r.val c)

theorem accAt_succ (a : Dev nD → Acc F) (r : Fin 6) (c : Dev nD) :
    accAt a (r.val + 1) c = stored r c (accAt a r.val c) (sntAt a r (pr (mk r) c)) := by
  match r with
  | 0 => rfl | 1 => rfl | 2 => rfl | 3 => rfl | 4 => rfl | 5 => rfl

/-! ## One head's slices of the key and value buffers -/

theorem kslot_inb : ∀ (g : Fin 2) (a : Fin 4), (![g.val, 0, 0, 0] : Fin 4 → ℕ) a + S1x4096x4x128.size a ≤ S2x4096x4x128.size a := by decide +kernel
theorem khead_inb : ∀ (g : Fin 2) (j : Fin 4) (a : Fin 4), (![g.val, 0, j.val, 0] : Fin 4 → ℕ) a + S1x4096x1x128.size a ≤ S2x4096x4x128.size a := by
  decide +kernel

abbrev kM : Memref sig .tc .vmem S2x4096x4x128 .f32 := Memref.whole cc0_scratch0
abbrev vM : Memref sig .tc .vmem S2x4096x4x128 .f32 := Memref.whole cc0_scratch1
abbrev kA : Memref sig .tc .hbm S1x4096x64x128 .f32 := Memref.whole main_arg2
abbrev vA : Memref sig .tc .hbm S1x4096x64x128 .f32 := Memref.whole main_arg3

/-- Half `g` of a key or value buffer: four heads. -/
abbrev half4 (b : Memref sig .tc .vmem S2x4096x4x128 .f32) (g : Fin 2) : Memref sig .tc .vmem S4096x4x128 .f32 :=
  (b.slice (Rect.unit (s := S2x4096x4x128) ![g.val, 0, 0, 0] S1x4096x4x128.size (kslot_inb g)) (fun _ => rfl)).squeeze S4096x4x128 squeezes_S1x4096x4x128_S4096x4x128
/-- The four heads of a cache that device `c` loads into half `g`. -/
abbrev src4 (b : Memref sig .tc .hbm S1x4096x64x128 .f32) (c : Dev nD) (g : Fin 2) : Memref sig .tc .hbm S4096x4x128 .f32 :=
  (b.slice (Rect.unit (s := S1x4096x64x128) (k0_off1 c (BitVec.ofNat 32 (4 * g.val))) S1x4096x4x128.size (k0_off1_inb c g)) (fun _ => rfl)).squeeze
    S4096x4x128 squeezes_S1x4096x4x128_S4096x4x128
/-- Head `j` of half `g`. -/
abbrev headRect (g : Fin 2) (j : Fin 4) : Rect S2x4096x4x128 :=
  Rect.unit (s := S2x4096x4x128) ![g.val, 0, j.val, 0] S1x4096x1x128.size (khead_inb g j)

theorem head_sub (g : Fin 2) (j : Fin 4) :
    (headRect g j).set ⊆ (Rect.unit (s := S2x4096x4x128) ![g.val, 0, 0, 0] S1x4096x4x128.size (kslot_inb g)).set := by
  intro i hi
  rw [Rect.mem_set_unit] at hi ⊢
  intro a
  have h := hi a
  have hj := j.isLt
  fin_cases a
  · exact h
  · exact h
  · have h2 : (![g.val, 0, j.val, 0] : Fin 4 → ℕ) 2 = j.val := rfl
    have h3 : S1x4096x1x128.size 2 = 1 := rfl
    have h4 : S1x4096x4x128.size 2 = 4 := rfl
    have h5 : (![g.val, 0, 0, 0] : Fin 4 → ℕ) 2 = 0 := rfl
    show (![g.val, 0, 0, 0] : Fin 4 → ℕ) 2 ≤ (i 2 : ℕ) ∧ (i 2 : ℕ) < (![g.val, 0, 0, 0] : Fin 4 → ℕ) 2 + S1x4096x4x128.size 2
    have h' : (![g.val, 0, j.val, 0] : Fin 4 → ℕ) 2 ≤ (i 2 : ℕ) ∧ (i 2 : ℕ) < (![g.val, 0, j.val, 0] : Fin 4 → ℕ) 2 + S1x4096x1x128.size 2 := h
    rw [h2, h3] at h'
    rw [h4, h5]
    omega
  · exact h

/-- Head `j` of four, as a load gives it. -/
def head4 (j : Fin 4) (v : S4096x4x128.Idx → Elt F .f32) : S1x4096x1x128.Idx → Elt F .f32 := fun i => v (ix3 (i 1) j (i 3))

/-- The index a load of head `j` reads at, through the half's own indices. -/
theorem head_emb (g : Fin 2) (j : Fin 4) (i : S1x4096x1x128.Idx) :
    (headRect g j).emb i
      = (Rect.unit (s := S2x4096x4x128) ![g.val, 0, 0, 0] S1x4096x4x128.size (kslot_inb g)).emb
          (ix4 (⟨0, Nat.one_pos⟩ : Fin 1) (i 1) j (i 3) : S1x4096x4x128.Idx) := by
  have h0 : (i 0).val = 0 := Nat.lt_one_iff.mp (i 0).isLt
  have h2 : (i 2).val = 0 := Nat.lt_one_iff.mp (i 2).isLt
  funext a
  refine Fin.ext ?_
  rw [ValueKit.rect_emb_unit_val, ValueKit.rect_emb_unit_val]
  fin_cases a
  · exact congrArg (g.val + ·) h0
  · rfl
  · show j.val + (i 2).val = 0 + j.val
    omega
  · rfl

/-- Half `g` of a buffer read at a head: what a load of the head reads of the whole buffer. -/
theorem read_head (M : Memref sig .tc .vmem S2x4096x4x128 .f32) (g : Fin 2) (j : Fin 4) (f : M.view.ty.Contents (Elt F)) :
    (M.access (headRect g j)).read (Elt F) f = head4 j ((half4 M g).view.read (Elt F) f) := by
  funext i
  show M.view.read (Elt F) f ((headRect g j).emb i)
    = M.view.read (Elt F) f ((Rect.unit (s := S2x4096x4x128) ![g.val, 0, 0, 0] S1x4096x4x128.size (kslot_inb g)).emb
        (Shape.reshapeEquiv _ (ix3 (i 1) j (i 3))))
  rw [head_emb]
  exact congrArg (fun z => M.view.read (Elt F) f ((Rect.unit (s := S2x4096x4x128) ![g.val, 0, 0, 0] S1x4096x4x128.size (kslot_inb g)).emb z))
    (reshapeEquiv_ix3_1abc _ _ _ _).symm

/-- The elements a load of a head reads are among its half's. -/
theorem head_set (M : Memref sig .tc .vmem S2x4096x4x128 .f32) (g : Fin 2) (j : Fin 4) :
    (M.access (headRect g j)).set ⊆ (half4 M g).view.set := by
  have h : (half4 M g).view.set = (Rect.unit (s := S2x4096x4x128) ![g.val, 0, 0, 0] S1x4096x4x128.size (kslot_inb g)).set.map M.view.emb :=
    (View.set_reshape _ _).trans (View.set_slice _ _)
  rw [h, View.set_slice]
  exact Finset.map_subset_map.mpr (head_sub g j)

/-! ## The attention of one device -/

/-- The query rows' head `h`. -/
abbrev qOff (h : Fin 8) : Fin 2 → ℕ := ![0, 128 * h.val]
theorem q_slices : ∀ h : Fin 8, S256x1024.Slices (qOff h) S256x128 := by decide +kernel

/-- One head's output from the query product, the head's keys and its values. -/
def headOut (h : Fin 8) (q : S256x1024.Idx → Elt F .f32) (k v : S1x4096x1x128.Idx → Elt F .f32) : S256x128.Idx → Elt F .bf16 :=
  k0_pay20 (truncf .bf16 (extractStridedSlice S256x128 (qOff h) q (q_slices h)) bitsLt_bf16_f32) (k0_pay18 k) (k0_pay18 v)

abbrev atM : Memref sig .tc .vmem S256x1024 .bf16 := Memref.whole cc0_scratch5
theorem at_inb : ∀ (h : Fin 8) (a : Fin 2), qOff h a + S256x128.size a ≤ S256x1024.size a := by decide +kernel
abbrev atRect (h : Fin 8) : Rect S256x1024 := Rect.unit (s := S256x1024) (qOff h) S256x128.size (at_inb h)

/-- Head `h`'s half of the loads, and its place in it. -/
def hg (h : Fin 8) : Fin 2 := ⟨h.val / 4, by omega⟩
def hj (h : Fin 8) : Fin 4 := ⟨h.val % 4, by omega⟩

/-- Eight blocks of 128 columns side by side. -/
def cols (ws : Fin 8 → S256x128.Idx → Elt F .bf16) : S256x1024.Idx → Elt F .bf16 :=
  fun i => ws ⟨(i 1).val / 128, Nat.div_lt_of_lt_mul (i 1).isLt⟩ (ix2 (i 0) ⟨(i 1).val % 128, Nat.mod_lt _ (by decide)⟩)

/-- One head's store as a piece of the attention buffer. -/
abbrev atPiece (ws : Fin 8 → S256x128.Idx → Elt F .bf16) (h : Fin 8) : View.Piece (Elt F) S256x1024 .bf16 := ⟨atRect h, ws h⟩

theorem read_pieces (ws : Fin 8 → S256x128.Idx → Elt F .bf16) (f : (cc0_scratch5 : Ref sig .tc).ty.Contents (Elt F)) (i : S256x1024.Idx) :
    ∀ l : List (Fin 8), (⟨(i 1).val / 128, Nat.div_lt_of_lt_mul (i 1).isLt⟩ : Fin 8) ∈ l →
      atM.view.read (Elt F) (atM.view.writes (Elt F) f (l.map (atPiece ws))) i = cols ws i := by
  intro l
  induction l with
  | nil => intro h; cases h
  | cons k l ih =>
    intro h
    rw [List.map_cons]
    by_cases hk : (⟨(i 1).val / 128, Nat.div_lt_of_lt_mul (i 1).isLt⟩ : Fin 8) = k
    · subst hk
      refine View.read_writes_cons_unit_of_mem _ _ _ _ _ i (ix2 (i 0) ⟨(i 1).val % 128, Nat.mod_lt _ (by decide)⟩) rfl ?_
      intro a
      fin_cases a
      · exact (Nat.zero_add _).symm
      · exact (Nat.div_add_mod (i 1).val 128).symm
    · refine (View.read_writes_cons_unit_of_not_mem _ _ _ _ _ i rfl 1 ?_).trans (ih ((List.mem_cons.mp h).resolve_left hk))
      have hne : (i 1).val / 128 ≠ k.val := fun e => hk (Fin.ext e)
      show (i 1).val < 128 * k.val ∨ 128 * k.val + 128 ≤ (i 1).val
      omega

/-- The attention buffer after the eight stores, whatever it held. -/
theorem attn_written (ws : Fin 8 → S256x128.Idx → Elt F .bf16) (f : (cc0_scratch5 : Ref sig .tc).ty.Contents (Elt F)) :
    atM.view.writes (Elt F) f (([7, 6, 5, 4, 3, 2, 1, 0] : List (Fin 8)).map (atPiece ws)) = cols ws := by
  have hall : ∀ h : Fin 8, h ∈ ([7, 6, 5, 4, 3, 2, 1, 0] : List (Fin 8)) := by decide
  exact funext fun i => read_pieces ws f i _ (hall _)

/-- Device `c`'s partial product, from the arrays staged in its vector memory and the two caches. -/
def part0 (x : S1x256x1024.Idx → Elt F .f32) (wq wo : S1024x1024.Idx → Elt F .f32) (kv vv : Fin 2 → S4096x4x128.Idx → Elt F .f32) : Acc F :=
  k0_pay27 wo (cols fun h => headOut h (k0_pay3 x wq) (head4 (hj h) (kv (hg h))) (head4 (hj h) (vv (hg h))))

/-! ## The stores of the program, in these words -/

section Pays
variable (q : S256x1024.Idx → Elt F .f32) (k v : S1x4096x1x128.Idx → Elt F .f32)

theorem pay_h0 : k0_pay7 (k0_pay4 v) (k0_pay5 q k) (k0_pay6 q k) = headOut 0 q k v := rfl
theorem pay_h1 : k0_pay8 q k v = headOut 1 q k v := rfl
theorem pay_h2 : k0_pay11 (k0_pay9 q) (k0_pay10 k) v = headOut 2 q k v := rfl
theorem pay_h3 : k0_pay16 (k0_pay12 v) (k0_pay14 q k) (k0_pay15 q k) (constant S256x128 .f32 0x00000000#32) = headOut 3 q k v := rfl
theorem pay_h4 : k0_pay20 (k0_pay17 q) (k0_pay18 k) (k0_pay19 v) = headOut 4 q k v := rfl
theorem pay_h5 : k0_pay22 (k0_pay21 q k v) = headOut 5 q k v := rfl
theorem pay_h6 : k0_pay23 q k v = headOut 6 q k v := rfl
theorem pay_h7 : k0_pay26 (k0_pay24 v) (k0_pay25 q k) = headOut 7 q k v := rfl

end Pays

end Cert.KernelIdealProof

end
-- ==== Proof.KernelIdealExchange.lean ====
/-
# One exchange, as a step of a program

A round of the protocol on device `c`: the rows of the accumulator that its partner wants are put in the send buffer as
bf16, sent, both sides waited for, and the partner's block combined into the rows that `c` keeps. One statement for the
rounds that add and one for the rounds that copy, each for every round and device.
-/
module

public import proofs.«01_k».proof.Proof.KernelIdealContents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (snt : (r : Fin 6) → Dev nD → (sh r).Idx → Elt F .bf16)

/-! ## The shared records -/

/-- Every cell's invariant under the names `K`, and that every cell is at round 0. -/
def records (K : Dev nD × CK → ℕ) : sProp 𝕄 :=
  iprop((bigSep Finset.univ fun ck : Dev nD × CK => cellInv ER (Rd snt) (K ck) (kcell ck))
    ∗ bigSep Finset.univ fun ck : Dev nD × CK => reached ER (kcell ck) 0)

instance records_persistent (K : Dev nD × CK → ℕ) : BI.Persistent (records (F := F) snt K) := by unfold records; infer_instance

variable (K : Dev nD × CK → ℕ)

theorem inv_at (ck : Dev nD × CK) : records (F := F) snt K ⊢ cellInv ER (Rd snt) (K ck) (kcell ck) := by
  have h : (bigSep Finset.univ fun ck : Dev nD × CK => (cellInv ER (Rd snt) (K ck) (kcell ck) : sProp 𝕄)) ⊢ cellInv ER (Rd snt) (K ck) (kcell ck) :=
    bigSep_elim (Finset.mem_univ ck)
  unfold records
  iintro ⟨H, -⟩
  iapply h; iexact H
theorem reached_at (ck : Dev nD × CK) : records (F := F) snt K ⊢ reached ER (kcell ck) 0 := by
  have h : (bigSep Finset.univ fun ck : Dev nD × CK => (reached ER (kcell ck) 0 : sProp 𝕄)) ⊢ reached ER (kcell ck) 0 := bigSep_elim (Finset.mem_univ ck)
  unfold records
  iintro ⟨-, H⟩
  iapply h; iexact H

/-- What device `c` holds for round `r`: the tokens it pays with, its positions on its two cells, its receive cell's credit. -/
def rnd (r : Fin 6) (c : Dev nD) : sProp 𝕄 :=
  iprop(dutyTok ER (sendCell c r) 0 0 ∗ dutyTok ER (recvCell (pr (mk r) c) r) 0 0 ∗ atPos ER (sendCell c r) 0 ∅ 0 ∗ atPos ER (recvCell c r) 0 ∅ 0
    ∗ cred (tallyAt (recvCell c r) () (N r)))

theorem credit_sent (r : Fin 6) : (sentM r).view.dmaCredit = N r := rfl

/-- The transfer of round `r` and its two waits. -/
theorem wp_exchange (c n : Dev nD) (r : Fin 6) (l : List (Fin 6)) (hn : n = pr (mk r) c) (hl : ∀ r' ∈ l, r.val < r'.val)
    {hsc : (slotM r : Memref sig (Dev.tc n : Thread nD τ).2.kind .vmem (sh r) .bf16).view.ref.isScScratch = false}
    {hsrc hsrc' hdst'' : (sentM r).view.WordExact} {hdst hdst' hsrc'' : (slotM r).view.WordExact}
    {hsem : DmaTarget.Typed .vmem (.dma (recvS r)) (.remote (Dev.tc n : Thread nD τ) (slotM r) (.dma (sendS r)) hsc)}
    {α : Type} {Q : α → sProp 𝕄} {k : PUnit → Prog (TpuEff nD τ sig (Elt F) Λ₀ .tc) α}
    (fs : Buf (Elt F) ((sentM r).view.loc (c : Thread nD τ))) (hfs : (sentM r).view.read (Elt F) fs = snt r c) (W : Waits sig Unit) :
    iprop(records snt K ∗ levAts L lv ∗ rnd r c ∗ sentPts r c fs ∗ (∃ fd, slotPts r (pr (mk r) c) fd) ∗ owes (c : Thread nD τ) (oweR c (r :: l)) W)
      ⊢ iprop(((∃ W', owes (c : Thread nD τ) (oweR c l) W') ∗ sendPay r c ∗ recvPay snt r c ∗ semVal (sendCell c r) 0 ∗ semVal (recvCell c r) 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sentM r) (.remote (Dev.tc n : Thread nD τ) (slotM r) (.dma (sendS r)) hsc) (.dma (recvS r)) hsrc hdst hsem) fun _ =>
                .op (.waitDma2 (sendS r) (slotM r) (sentM r) hdst' hsrc') fun _ =>
                  .op (.waitDma2 (recvS r) (sentM r) (slotM r) hdst'' hsrc'') k) Q) := by
  subst hn
  iintro ⟨#Hrec, #Hlev, Hr, Hs, ⟨%fd, Hd⟩, HO⟩
  iintro Hk
  unfold rnd
  icases Hr with ⟨Ht1, Ht2, Ha1, Ha2, Hc⟩
  unfold slotPts sentPts
  iapply (Rounds.wp_send_pointsTo 𝒱₀ ER (Rd (F := F) snt) (c : Thread nD τ) none (κ₁ := K (c, some (false, r))) (κ₂ := K (pr (mk r) c, some (true, r)))
    (r₁ := 0) (r₂ := 0) (d₁ := 0) (d₂ := 0) (fd := fd)
    (by rw [duties_send]; exact Finset.mem_singleton_self _) (by rw [duties_recv]; exact Finset.mem_singleton_self _)
    () () (N r) rfl (amount_send snt c r 0) (amount_recv snt (pr (mk r) c) r 0) (oweR c l) rfl (W := W)
    (by rw [payload_send]; unfold sendPay sentPts; iintro H; iexists fs; iexact H)
    (by rw [payload_recv]; unfold recvPay slotPts; rw [hfs, pr_pr]; iintro H; iexists fd; iexact H)) $$ [Hs Hd HO Ht1 Ht2]
  · isplitr; · iapply (inv_at snt K (c, some (false, r))); iexact Hrec
    isplitr; · iapply (inv_at snt K (pr (mk r) c, some (true, r))); iexact Hrec
    isplitl [Hs]; · iexact Hs
    isplitl [Hd]; · iexact Hd
    isplitl [HO]; · iexact HO
    isplitl [Ht1]; · iexact Ht1
    isplitr; · iapply (reached_at snt K (c, some (false, r))); iexact Hrec
    isplitl [Ht2]; · iexact Ht2
    iapply (reached_at snt K (pr (mk r) c, some (true, r))); iexact Hrec
  iintro ⟨Hcs, HO⟩
  iapply (Rounds.wp_wait_rest_token 𝒱₀ ER (Rd (F := F) snt) (c : Thread nD τ) none (κ := K (c, some (false, r)))
      (wpE_waitDma2_eq 𝒱₀ (c : Thread nD τ) none Set.univ) (Set.mem_univ _) () (O := oweR c l) (W := W) (R := 0) (m := 0) (T := ∅)
      (by rw [Nat.zero_add, expect_send, credit_sent])) $$ [Hcs HO Ha1]
  · isplitr; · iapply (inv_at snt K (c, some (false, r))); iexact Hrec
    isplitl [Hcs]; · iexact Hcs
    isplitl [HO]; · iexact HO
    isplitr; · iapply (mayWait_oweR c (.dma (sendS r)) l (fun r' h => by rw [lvS_send]; omega)); iexact Hlev
    iexact Ha1
  iintro ⟨HO, Ha1, -, Hpay⟩
  ihave Hsp := (Entails.of_eq (rest_send snt c r)) $$ Hpay
  iapply (Rounds.wp_wait_rest_token 𝒱₀ ER (Rd (F := F) snt) (c : Thread nD τ) none (κ := K (c, some (true, r)))
      (wpE_waitDma2_eq 𝒱₀ (c : Thread nD τ) none Set.univ) (Set.mem_univ _) () (O := oweR c l) (W := insert (SemLoc.dma (sendS r), ()) W) (R := 0) (m := 0) (T := ∅)
      (by rw [Nat.zero_add, expect_recv])) $$ [Hc HO Ha2]
  · isplitr; · iapply (inv_at snt K (c, some (true, r))); iexact Hrec
    isplitl [Hc]; · iexact Hc
    isplitl [HO]; · iexact HO
    isplitr; · iapply (mayWait_oweR c (.dma (recvS r)) l (fun r' h => by rw [lvS_recv]; have := hl r' h; omega)); iexact Hlev
    iexact Ha2
  iintro ⟨HO, Ha2, -, Hpay⟩
  ihave Hrp := (Entails.of_eq (rest_recv snt c r)) $$ Hpay
  imod (Rounds.cell_close ER (Rd (F := F) snt) (Set.mem_univ (K (c, some (false, r)))) (fun h => h) (R := 0 + 1) (duties_later snt (sendCell c r))) $$ [Ha1] with Hz1
  · isplitr; · iapply (inv_at snt K (c, some (false, r))); iexact Hrec
    iexact Ha1
  imod (Rounds.cell_close ER (Rd (F := F) snt) (Set.mem_univ (K (c, some (true, r)))) (fun h => h) (R := 0 + 1) (duties_later snt (recvCell c r))) $$ [Ha2] with Hz2
  · isplitr; · iapply (inv_at snt K (c, some (true, r))); iexact Hrec
    iexact Ha2
  iapply Hk
  isplitl [HO]; · iexists _; iexact HO
  isplitl [Hsp]; · iexact Hsp
  isplitl [Hrp]; · iexact Hrp
  isplitl [Hz1]; · iexact Hz1
  iexact Hz2

/-! ## A whole round -/

abbrev sentRect (r : Fin 6) : Rect S128x1024 := Rect.unit (s := S128x1024) ![0, 0] (sh r).size (sent_inb r)
abbrev slotRect (r : Fin 6) : Rect S6x128x1024 := Rect.unit (s := S6x128x1024) ![r.val, 0, 0] (sh1 r).size (slot_inb r)

/-- A buffer of device `c`, whole. -/
abbrev wholeAt (c : Dev nD) (b : Ref sig .tc) (f : Buf (Elt F) ((c : Thread nD τ).loc b)) : sProp 𝕄 := ((c : Thread nD τ).loc b) ↦{fullShare} f

/-- The send buffer lent: the part sent, and the rest of the buffer to join it again. -/
theorem snd_split (r : Fin 6) (c : Dev nD) (f : Buf (Elt F) ((c : Thread nD τ).loc cc0_scratch3)) :
    wholeAt c cc0_scratch3 f ⊢ iprop(sentPts r c f ∗ (sendPay r c -∗ ∃ f', wholeAt (F := F) c cc0_scratch3 f')) := by
  unfold sendPay sentPts
  iintro H
  ihave H' := ((pointsTo_split_subset (Finset.subset_univ (sentM r).view.set)).1) $$ H
  icases H' with ⟨H1, H2⟩
  isplitl [H1]; · iexact H1
  iintro ⟨%g, H1⟩
  iexists _
  iapply (pointsTo_join_subset (Finset.subset_univ (sentM r).view.set))
  isplitl [H1]; · iexact H1
  iexact H2

/-- The six steps of a round up to the partner's block: the rows read and put in the send buffer, the transfer, the waits. -/
theorem wp_sent (c n : Dev nD) (r : Fin 6) (l : List (Fin 6)) (hn : n = pr (mk r) c) (hl : ∀ r' ∈ l, r.val < r'.val)
    {h1 : accM.view.LoadsAt (sndRect r c).toLoadRect} {h2 : sndM.view.LoadsAt (sentRect r).toLoadRect}
    {h3 : (sndM.access (sentRect r)).Stores Finset.univ} {h4}
    {hsc : (slotM r : Memref sig (Dev.tc n : Thread nD τ).2.kind .vmem (sh r) .bf16).view.ref.isScScratch = false}
    {hsrc hsrc' hdst'' : (sentM r).view.WordExact} {hdst hdst' hsrc'' : (slotM r).view.WordExact}
    {hsem : DmaTarget.Typed .vmem (.dma (recvS r)) (.remote (Dev.tc n : Thread nD τ) (slotM r) (.dma (sendS r)) hsc)}
    {α : Type} {Q : α → sProp 𝕄} {k : PUnit → Prog (TpuEff nD τ sig (Elt F) Λ₀ .tc) α}
    (ps : ((sh r).Idx → Elt F .f32) → ((sh r).Idx → Elt F .bf16)) (hps : ∀ a, ps a = blk r a)
    (a : Acc F) (hsnt : sentOf r c a = snt r c) :
    iprop(records snt K ∗ levAts L lv ∗ rnd r c ∗ wholeAt c cc0_scratch2 a ∗ (∃ f, wholeAt c cc0_scratch3 f) ∗ (∃ fd, slotPts r (pr (mk r) c) fd)
        ∗ (∃ W, owes (c : Thread nD τ) (oweR c (r :: l)) W))
      ⊢ iprop(((∃ W, owes (c : Thread nD τ) (oweR c l) W) ∗ wholeAt c cc0_scratch2 a ∗ (∃ f, wholeAt c cc0_scratch3 f) ∗ recvPay snt r c
              ∗ semVal (sendCell c r) 0 ∗ semVal (recvCell c r) 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load accM (sndRect r c).toLoadRect h1) fun va => .op (.load sndM (sentRect r).toLoadRect h2) fun _ =>
                .op (.store sndM (sentRect r) (ps va) Finset.univ h3 h4) fun _ =>
                .op (.enqueueDma (sentM r) (.remote (Dev.tc n : Thread nD τ) (slotM r) (.dma (sendS r)) hsc) (.dma (recvS r)) hsrc hdst hsem) fun _ =>
                .op (.waitDma2 (sendS r) (slotM r) (sentM r) hdst' hsrc') fun _ =>
                  .op (.waitDma2 (recvS r) (sentM r) (slotM r) hdst'' hsrc'') k) Q) := by
  iintro ⟨#Hrec, #Hlev, Hr, Ha, ⟨%f, Hs⟩, Hd, ⟨%W, HO⟩⟩
  iintro Hk
  iapply (wp_load_rect 𝒱₀ (c : Thread nD τ) none Set.univ (m := accM) (r := sndRect r c) (Finset.subset_univ _)) $$ Ha; iintro Ha
  iapply (wp_load 𝒱₀ (c : Thread nD τ) none Set.univ (m := sndM) (Finset.subset_univ _)) $$ Hs; iintro Hs
  iapply (wp_store 𝒱₀ (c : Thread nD τ) none Set.univ (m := sndM) (r := sentRect r) (Mk := Finset.univ) (Finset.subset_univ _)) $$ Hs; iintro Hs
  rw [hps]
  ihave Hs' := (snd_split r c _) $$ Hs
  icases Hs' with ⟨Hs, Hback⟩
  iapply (wp_exchange snt K c n r l hn hl _ ((View.read_write_univ _ _).trans hsnt) W) $$ [Hr Hs Hd HO]
  · isplitr; · iexact Hrec
    isplitr; · iexact Hlev
    isplitl [Hr]; · iexact Hr
    isplitl [Hs]; · iexact Hs
    isplitl [Hd]; · iexact Hd
    iexact HO
  iintro ⟨HO, Hs, Hrp, Hz1, Hz2⟩
  ihave Hs' := Hback $$ Hs
  iapply Hk
  isplitl [HO]; · iexact HO
  isplitl [Ha]; · iexact Ha
  isplitl [Hs']; · iexact Hs'
  isplitl [Hrp]; · iexact Hrp
  isplitl [Hz1]; · iexact Hz1
  iexact Hz2

/-- What a load of a landing slot reads, its unit axis dropped. -/
theorem read_slot (r : Fin 6) (hq : (sh1 r).ShapeCasts (sh r)) (f : (cc0_scratch4 : Ref sig .tc).ty.Contents (Elt F)) (w : (sh r).Idx → Elt F .bf16) :
    shapeCast (sh r) ((rcvM.access (slotRect r)).read (Elt F) ((slotM r).view.write (Elt F) f w Finset.univ)) hq = w :=
  View.read_write_univ (v := (slotM r).view) f w

theorem slot_set (r : Fin 6) : (rcvM.access (slotRect r)).set ⊆ (slotM r).view.set := subset_of_eq (View.set_reshape _ _).symm

/-- A round that adds: `wp_sent`, then the partner's block added to the rows kept. -/
theorem wp_round_add (c n : Dev nD) (r : Fin 6) (l : List (Fin 6)) (hn : n = pr (mk r) c) (hl : ∀ r' ∈ l, r.val < r'.val)
    {h1 : accM.view.LoadsAt (sndRect r c).toLoadRect} {h2 : sndM.view.LoadsAt (sentRect r).toLoadRect}
    {h3 : (sndM.access (sentRect r)).Stores Finset.univ} {h4}
    {hsc : (slotM r : Memref sig (Dev.tc n : Thread nD τ).2.kind .vmem (sh r) .bf16).view.ref.isScScratch = false}
    {hsrc hsrc' hdst'' : (sentM r).view.WordExact} {hdst hdst' hsrc'' : (slotM r).view.WordExact}
    {hsem : DmaTarget.Typed .vmem (.dma (recvS r)) (.remote (Dev.tc n : Thread nD τ) (slotM r) (.dma (sendS r)) hsc)}
    {h5 h7 : accM.view.LoadsAt (kpRect r c).toLoadRect} {h6 : rcvM.view.LoadsAt (slotRect r).toLoadRect}
    {h8 : (accM.access (kpRect r c)).Stores Finset.univ} {h9}
    {α : Type} {Q : α → sProp 𝕄} {k : PUnit → Prog (TpuEff nD τ sig (Elt F) Λ₀ .tc) α}
    (ps : ((sh r).Idx → Elt F .f32) → ((sh r).Idx → Elt F .bf16)) (hps : ∀ a, ps a = blk r a)
    (hq : (sh1 r).ShapeCasts (sh r)) (pk : ((sh r).Idx → Elt F .f32) → ((sh1 r).Idx → Elt F .bf16) → ((sh r).Idx → Elt F .f32))
    (hpk : ∀ a b, pk a b = comb r a (shapeCast (sh r) b hq))
    (a : Acc F) (hsnt : sentOf r c a = snt r c) :
    iprop(records snt K ∗ levAts L lv ∗ rnd r c ∗ wholeAt c cc0_scratch2 a ∗ (∃ f, wholeAt c cc0_scratch3 f) ∗ (∃ fd, slotPts r (pr (mk r) c) fd)
        ∗ (∃ W, owes (c : Thread nD τ) (oweR c (r :: l)) W))
      ⊢ iprop(((∃ W, owes (c : Thread nD τ) (oweR c l) W) ∗ wholeAt c cc0_scratch2 (stored r c a (snt r (pr (mk r) c))) ∗ (∃ f, wholeAt c cc0_scratch3 f)
              ∗ (∃ f, slotPts r c f) ∗ semVal (sendCell c r) 0 ∗ semVal (recvCell c r) 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load accM (sndRect r c).toLoadRect h1) fun va => .op (.load sndM (sentRect r).toLoadRect h2) fun _ =>
                .op (.store sndM (sentRect r) (ps va) Finset.univ h3 h4) fun _ =>
                .op (.enqueueDma (sentM r) (.remote (Dev.tc n : Thread nD τ) (slotM r) (.dma (sendS r)) hsc) (.dma (recvS r)) hsrc hdst hsem) fun _ =>
                .op (.waitDma2 (sendS r) (slotM r) (sentM r) hdst' hsrc') fun _ =>
                .op (.waitDma2 (recvS r) (sentM r) (slotM r) hdst'' hsrc'') fun _ =>
                .op (.load accM (kpRect r c).toLoadRect h5) fun va => .op (.load rcvM (slotRect r).toLoadRect h6) fun vb =>
                .op (.load accM (kpRect r c).toLoadRect h7) fun _ => .op (.store accM (kpRect r c) (pk va vb) Finset.univ h8 h9) k) Q) := by
  iintro H
  iintro Hk
  iapply (wp_sent snt K c n r l hn hl ps hps a hsnt) $$ H
  iintro ⟨HO, Ha, Hs, Hrp, Hz1, Hz2⟩
  unfold recvPay slotPts
  icases Hrp with ⟨%g, Hrp⟩
  iapply (wp_load_rect 𝒱₀ (c : Thread nD τ) none Set.univ (m := accM) (r := kpRect r c) (Finset.subset_univ _)) $$ Ha; iintro Ha
  iapply (wp_load_rect 𝒱₀ (c : Thread nD τ) none Set.univ (m := rcvM) (r := slotRect r) (slot_set r)) $$ Hrp; iintro Hrp
  iapply (wp_load 𝒱₀ (c : Thread nD τ) none Set.univ (m := accM) (Finset.subset_univ _)) $$ Ha; iintro Ha
  iapply (wp_store 𝒱₀ (c : Thread nD τ) none Set.univ (m := accM) (r := kpRect r c) (Mk := Finset.univ) (Finset.subset_univ _)) $$ Ha; iintro Ha
  rw [hpk, read_slot]
  iapply Hk
  isplitl [HO]; · iexact HO
  isplitl [Ha]; · iexact Ha
  isplitl [Hs]; · iexact Hs
  isplitl [Hrp]; · iexists _; iexact Hrp
  isplitl [Hz1]; · iexact Hz1
  iexact Hz2

/-- A round that copies: `wp_sent`, then the partner's block stored. -/
theorem wp_round_copy (c n : Dev nD) (r : Fin 6) (l : List (Fin 6)) (hn : n = pr (mk r) c) (hl : ∀ r' ∈ l, r.val < r'.val)
    {h1 : accM.view.LoadsAt (sndRect r c).toLoadRect} {h2 : sndM.view.LoadsAt (sentRect r).toLoadRect}
    {h3 : (sndM.access (sentRect r)).Stores Finset.univ} {h4}
    {hsc : (slotM r : Memref sig (Dev.tc n : Thread nD τ).2.kind .vmem (sh r) .bf16).view.ref.isScScratch = false}
    {hsrc hsrc' hdst'' : (sentM r).view.WordExact} {hdst hdst' hsrc'' : (slotM r).view.WordExact}
    {hsem : DmaTarget.Typed .vmem (.dma (recvS r)) (.remote (Dev.tc n : Thread nD τ) (slotM r) (.dma (sendS r)) hsc)}
    {h7 : accM.view.LoadsAt (kpRect r c).toLoadRect} {h6 : rcvM.view.LoadsAt (slotRect r).toLoadRect}
    {h8 : (accM.access (kpRect r c)).Stores Finset.univ} {h9}
    {α : Type} {Q : α → sProp 𝕄} {k : PUnit → Prog (TpuEff nD τ sig (Elt F) Λ₀ .tc) α}
    (ps : ((sh r).Idx → Elt F .f32) → ((sh r).Idx → Elt F .bf16)) (hps : ∀ a, ps a = blk r a)
    (hq : (sh1 r).ShapeCasts (sh r)) (pk : ((sh1 r).Idx → Elt F .bf16) → ((sh r).Idx → Elt F .f32))
    (hpk : ∀ a b, pk b = comb r a (shapeCast (sh r) b hq))
    (a : Acc F) (hsnt : sentOf r c a = snt r c) :
    iprop(records snt K ∗ levAts L lv ∗ rnd r c ∗ wholeAt c cc0_scratch2 a ∗ (∃ f, wholeAt c cc0_scratch3 f) ∗ (∃ fd, slotPts r (pr (mk r) c) fd)
        ∗ (∃ W, owes (c : Thread nD τ) (oweR c (r :: l)) W))
      ⊢ iprop(((∃ W, owes (c : Thread nD τ) (oweR c l) W) ∗ wholeAt c cc0_scratch2 (stored r c a (snt r (pr (mk r) c))) ∗ (∃ f, wholeAt c cc0_scratch3 f)
              ∗ (∃ f, slotPts r c f) ∗ semVal (sendCell c r) 0 ∗ semVal (recvCell c r) 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load accM (sndRect r c).toLoadRect h1) fun va => .op (.load sndM (sentRect r).toLoadRect h2) fun _ =>
                .op (.store sndM (sentRect r) (ps va) Finset.univ h3 h4) fun _ =>
                .op (.enqueueDma (sentM r) (.remote (Dev.tc n : Thread nD τ) (slotM r) (.dma (sendS r)) hsc) (.dma (recvS r)) hsrc hdst hsem) fun _ =>
                .op (.waitDma2 (sendS r) (slotM r) (sentM r) hdst' hsrc') fun _ =>
                .op (.waitDma2 (recvS r) (sentM r) (slotM r) hdst'' hsrc'') fun _ =>
                .op (.load rcvM (slotRect r).toLoadRect h6) fun vb =>
                .op (.load accM (kpRect r c).toLoadRect h7) fun _ => .op (.store accM (kpRect r c) (pk vb) Finset.univ h8 h9) k) Q) := by
  iintro H
  iintro Hk
  iapply (wp_sent snt K c n r l hn hl ps hps a hsnt) $$ H
  iintro ⟨HO, Ha, Hs, Hrp, Hz1, Hz2⟩
  unfold recvPay slotPts
  icases Hrp with ⟨%g, Hrp⟩
  iapply (wp_load_rect 𝒱₀ (c : Thread nD τ) none Set.univ (m := rcvM) (r := slotRect r) (slot_set r)) $$ Hrp; iintro Hrp
  iapply (wp_load 𝒱₀ (c : Thread nD τ) none Set.univ (m := accM) (Finset.subset_univ _)) $$ Ha; iintro Ha
  iapply (wp_store 𝒱₀ (c : Thread nD τ) none Set.univ (m := accM) (r := kpRect r c) (Mk := Finset.univ) (Finset.subset_univ _)) $$ Ha; iintro Ha
  rw [hpk ((accM.access (kpRect r c)).read (Elt F) a), read_slot]
  iapply Hk
  isplitl [HO]; · iexact HO
  isplitl [Ha]; · iexact Ha
  isplitl [Hs]; · iexact Hs
  isplitl [Hrp]; · iexists _; iexact Hrp
  isplitl [Hz1]; · iexact Hz1
  iexact Hz2

end Cert.KernelIdealProof

end
-- ==== Proof.KernelIdealLoads.lean ====
/-
# The key and value loads, and the stores of one head

Each half of the two caches' heads travels to vector memory by a local transfer on its own semaphore. A half that has
landed is read head by head, and each head's output is stored into the attention buffer's columns. The statements are for
either buffer and cache, either half and every head.
-/
module

public import proofs.«01_k».proof.Proof.KernelIdealExchange

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev EC : UEmb Counters (MT nD τ sig Unit (Elt F) ℕ UU ℕ) := countersEmb

theorem ldk_inb : ∀ (g : Fin 2) (a : Fin 1), (![g.val] : Fin 1 → ℕ) a + S1.size a ≤ S2.size a := by decide
/-- The semaphore of half `g`'s transfer of keys, and of values. -/
abbrev ldK (g : Fin 2) : DmaSem sig := ((cc0_scratch6.slice (Rect.unit (s := S2) ![g.val] S1.size (ldk_inb g))).squeeze S_ squeezes_S1_S_).sem
abbrev ldV (g : Fin 2) : DmaSem sig := ((cc0_scratch7.slice (Rect.unit (s := S2) ![g.val] S1.size (ldk_inb g))).squeeze S_ squeezes_S1_S_).sem

theorem lvS_ldK : ∀ g, lvS (.dma (ldK g)) = 0 := by decide +kernel
theorem lvS_ldV : ∀ g, lvS (.dma (ldV g)) = 0 := by decide +kernel

section
variable (M : Memref sig .tc .vmem S2x4096x4x128 .f32) (A : Memref sig .tc .hbm S1x4096x64x128 .f32) (c : Dev nD) (g : Fin 2)

abbrev NL : ℕ := (half4 M g).view.dmaCredit

/-- Half `g` of buffer `M`, with any contents. -/
def raw : sProp 𝕄 := iprop(∃ f, (half4 M g).view.loc (c : Thread nD τ) ↦[(half4 M g).view.set]{fullShare} f)
/-- Half `g` of buffer `M` holding `w`. -/
def rdy (w : S4096x4x128.Idx → Elt F .f32) : sProp 𝕄 :=
  iprop(∃ f, (half4 M g).view.loc (c : Thread nD τ) ↦[(half4 M g).view.set]{fullShare} ((half4 M g).view.write (Elt F) f w Finset.univ))
/-- A share of the part of cache `A` that device `c` loads into half `g`. -/
def srcPts (q : PosShare TreeShare) (f : Buf (Elt F) ((src4 A c g).view.loc (c : Thread nD τ))) : sProp 𝕄 :=
  (src4 A c g).view.loc (c : Thread nD τ) ↦[(src4 A c g).view.set]{q} f
/-- The transfer under way: at its wait it gives half `g` holding the cache's heads, and the cache's share back. -/
def fly (sm : DmaSem sig) (q : PosShare TreeShare) (f : Buf (Elt F) ((src4 A c g).view.loc (c : Thread nD τ))) : sProp 𝕄 :=
  iprop(∃ fd, Transfers.Flight EC (c : Thread nD τ) (.dma sm) () (NL M g)
    iprop(((half4 M g).view.loc (c : Thread nD τ) ↦[(half4 M g).view.set]{fullShare}
        ((half4 M g).view.write (Elt F) fd ((src4 A c g).view.read (Elt F) f) Finset.univ)) ∗ srcPts A c g q f))

theorem rdy_raw (w : S4096x4x128.Idx → Elt F .f32) : rdy M c g w ⊢ raw (F := F) M c g := by
  unfold rdy raw; iintro ⟨%f, H⟩; iexists _; iexact H

/-- The transfer issued. -/
theorem wp_fetch (sm : DmaSem sig) (q : PosShare TreeShare) (f : Buf (Elt F) ((src4 A c g).view.loc (c : Thread nD τ)))
    {hsrc : (src4 A c g).view.WordExact} {hdst : (half4 M g).view.WordExact} {hsem : DmaTarget.Typed (nD := nD) (p := (Proc.tc : Proc τ)) .hbm (.dma sm) (DmaTarget.here (p := (Proc.tc : Proc τ)) (half4 M g))}
    {α : Type} {Q : α → sProp 𝕄} {k : PUnit → Prog (TpuEff nD τ sig (Elt F) Λ₀ .tc) α} :
    iprop(srcPts A c g q f ∗ raw M c g ∗ semVal ((c : Thread nD τ), .dma sm) 0)
      ⊢ iprop((fly M A c g sm q f -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (src4 A c g) (.here (half4 M g)) (.dma sm) hsrc hdst hsem) k) Q) := by
  unfold raw srcPts
  iintro ⟨Hs, ⟨%fd, Hd⟩, Hz⟩
  iintro Hk
  iapply (Transfers.wp_dmaLocal EC 𝒱₀ (c : Thread nD τ) none (src := src4 A c g) (dst := half4 M g) (Sd := (half4 M g).view.set) () (NL M g) rfl (View.dmaCredit_pos _ (by decide)) subset_rfl) $$ [Hs Hd Hz]
  · isplitl [Hs]; · iexact Hs
    isplitl [Hd]; · iexact Hd
    iexact Hz
  iintro H
  iapply Hk
  unfold fly
  iexists fd
  iexact H

/-- The transfer waited for. -/
theorem wp_landed (sm : DmaSem sig) (hsm : lvS (.dma sm) = 0) (q : PosShare TreeShare) (f : Buf (Elt F) ((src4 A c g).view.loc (c : Thread nD τ)))
    (l : List (Fin 6))
    {hsrc : (src4 A c g).view.WordExact} {hdst : (half4 M g).view.WordExact}
    {α : Type} {Q : α → sProp 𝕄} {k : PUnit → Prog (TpuEff nD τ sig (Elt F) Λ₀ .tc) α} :
    iprop(levAts L lv ∗ fly M A c g sm q f ∗ (∃ W, owes (c : Thread nD τ) (oweR c l) W))
      ⊢ iprop((rdy M c g ((src4 A c g).view.read (Elt F) f) ∗ srcPts A c g q f ∗ semVal ((c : Thread nD τ), .dma sm) 0
              ∗ (∃ W, owes (c : Thread nD τ) (oweR c l) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm (src4 A c g) (half4 M g) hsrc hdst) k) Q) := by
  unfold fly
  iintro ⟨#Hlev, ⟨%fd, Hf⟩, ⟨%W, HO⟩⟩
  iintro Hk
  iapply (Transfers.wp_waitLocalO EC 𝒱₀ (c : Thread nD τ) none () rfl (O := oweR c l) (W := W)) $$ [Hf HO]
  · isplitl [Hf]; · iexact Hf
    isplitl [HO]; · iexact HO
    iapply (mayWait_oweR c (.dma sm) l (fun r h => by rw [hsm]; omega)); iexact Hlev
  iintro ⟨⟨Hd, Hs⟩, Hz, HO⟩
  iapply Hk
  isplitl [Hd]; · unfold rdy; iexists fd; iexact Hd
  isplitl [Hs]; · iexact Hs
  isplitl [Hz]; · iexact Hz
  iexists _; iexact HO

/-- A head read from a landed half. -/
theorem wp_head (j : Fin 4) (w : S4096x4x128.Idx → Elt F .f32) {h : M.view.LoadsAt (headRect g j).toLoadRect}
    {α : Type} {Q : α → sProp 𝕄} {k : (S1x4096x1x128.Idx → Elt F .f32) → Prog (TpuEff nD τ sig (Elt F) Λ₀ .tc) α} :
    rdy M c g w
      ⊢ iprop((rdy M c g w -∗ wp frame (wpE (defs₀ (F := F)) 𝒱₀ (c : Thread nD τ) none) Set.univ (k (head4 j w)) Q)
          -∗ wp frame (wpE (defs₀ (F := F)) 𝒱₀ (c : Thread nD τ) none) Set.univ (.op (.load M (headRect g j).toLoadRect h) k) Q) := by
  unfold rdy
  iintro ⟨%f, H⟩
  iintro Hk
  iapply (wp_load_rect 𝒱₀ (c : Thread nD τ) none Set.univ (m := M) (r := headRect g j) (head_set M g j)) $$ H
  iintro H
  rw [read_head, View.read_write_univ]
  iapply Hk
  iexists f; iexact H

end

/-! ## The attention buffer -/

/-- The attention buffer after the stores of the heads listed, the latest first, over any contents. -/
def atS (c : Dev nD) (ws : Fin 8 → S256x128.Idx → Elt F .bf16) (l : List (Fin 8)) : sProp 𝕄 :=
  iprop(∃ f : (cc0_scratch5 : Ref sig .tc).ty.Contents (Elt F), wholeAt c cc0_scratch5 (atM.view.writes (Elt F) f (l.map (atPiece ws))))

/-- One head's store (the program reads the columns first). -/
theorem wp_head_store (c : Dev nD) (ws : Fin 8 → S256x128.Idx → Elt F .bf16) (l : List (Fin 8)) (h : Fin 8) (p : S256x128.Idx → Elt F .bf16) (hp : p = ws h)
    {h1 : atM.view.LoadsAt (atRect h).toLoadRect} {h2 : (atM.access (atRect h)).Stores Finset.univ} {h3}
    {α : Type} {Q : α → sProp 𝕄} {k : PUnit → Prog (TpuEff nD τ sig (Elt F) Λ₀ .tc) α} :
    atS c ws l
      ⊢ iprop((atS c ws (h :: l) -∗ wp frame (wpE (defs₀ (F := F)) 𝒱₀ (c : Thread nD τ) none) Set.univ (k ⟨⟩) Q)
          -∗ wp frame (wpE (defs₀ (F := F)) 𝒱₀ (c : Thread nD τ) none) Set.univ
              (.op (.load atM (atRect h).toLoadRect h1) fun _ => .op (.store atM (atRect h) p Finset.univ h2 h3) k) Q) := by
  subst hp
  unfold atS
  iintro ⟨%f, H⟩
  iintro Hk
  iapply (wp_load 𝒱₀ (c : Thread nD τ) none Set.univ (m := atM) (Finset.subset_univ _)) $$ H; iintro H
  iapply (wp_store 𝒱₀ (c : Thread nD τ) none Set.univ (m := atM) (r := atRect h) (Mk := Finset.univ) (Finset.subset_univ _)) $$ H; iintro H
  iapply Hk
  iexists f
  iexact H

/-- After the eight stores the buffer holds the eight outputs side by side. -/
theorem atS_all (c : Dev nD) (ws : Fin 8 → S256x128.Idx → Elt F .bf16) : atS c ws [7, 6, 5, 4, 3, 2, 1, 0] ⊢ wholeAt c cc0_scratch5 (cols ws) := by
  unfold atS
  iintro ⟨%f, H⟩
  rw [attn_written]
  iexact H

/-! ## Buffers taken apart and put together -/

/-- A key or value buffer's two halves, and the rest of it to join them. -/
theorem halves (b : Ref sig .tc) (M : Memref sig .tc .vmem S2x4096x4x128 .f32) (c : Dev nD)
    (hl : ∀ g, (half4 M g).view.loc (c : Thread nD τ) = (M.view.loc (c : Thread nD τ)))
    (hd : Disjoint (half4 M 0).view.set (half4 M 1).view.set) (f : Buf (Elt F) (M.view.loc (c : Thread nD τ))) :
    (M.view.loc (c : Thread nD τ) ↦{fullShare} f : sProp 𝕄)
      ⊢ iprop(raw M c 0 ∗ raw M c 1 ∗ (raw M c 0 ∗ raw M c 1 -∗ ∃ f' : Buf (Elt F) (M.view.loc (c : Thread nD τ)), M.view.loc (c : Thread nD τ) ↦{fullShare} f')) := by
  have hs : (half4 M 1).view.set ⊆ Finset.univ \ (half4 M 0).view.set :=
    fun i hi => Finset.mem_sdiff.mpr ⟨Finset.mem_univ _, fun h0 => Finset.disjoint_left.mp hd h0 hi⟩
  unfold raw
  iintro H
  ihave H' := ((pointsTo_split_subset (Finset.subset_univ (half4 M 0).view.set)).1) $$ H
  icases H' with ⟨H0, H'⟩
  ihave H'' := ((pointsTo_split_subset hs).1) $$ H'
  icases H'' with ⟨H1, HR⟩
  isplitl [H0]; · iexists f; iexact H0
  isplitl [H1]; · iexists f; iexact H1
  iintro ⟨⟨%g0, H0⟩, ⟨%g1, H1⟩⟩
  iexists _
  iapply (pointsTo_join_subset (Finset.subset_univ (half4 M 0).view.set))
  isplitl [H0]; · iexact H0
  iapply (pointsTo_join_subset hs)
  isplitl [H1]; · iexact H1
  iexact HR

/-- Both shares of a cache's two parts lent, and what joins them again. -/
theorem lend (A : Memref sig .tc .hbm S1x4096x64x128 .f32) (c : Dev nD) (f : Buf (Elt F) (A.view.loc (c : Thread nD τ))) :
    (A.view.loc (c : Thread nD τ) ↦{fullShare} f : sProp 𝕄)
      ⊢ iprop(srcPts A c 0 fullShare.left f ∗ srcPts A c 1 fullShare.right f
          ∗ (srcPts A c 0 fullShare.left f ∗ srcPts A c 1 fullShare.right f -∗ A.view.loc (c : Thread nD τ) ↦{fullShare} f)) := by
  unfold srcPts
  iintro H
  ihave H' := ((pointsTo_share (PosShare.mem_left_op_right fullShare)).1) $$ H
  icases H' with ⟨HL, HR⟩
  ihave HL' := ((pointsTo_split_subset (Finset.subset_univ (src4 A c 0).view.set)).1) $$ HL
  ihave HR' := ((pointsTo_split_subset (Finset.subset_univ (src4 A c 1).view.set)).1) $$ HR
  icases HL' with ⟨H0, HL⟩
  icases HR' with ⟨H1, HR⟩
  isplitl [H0]; · iexact H0
  isplitl [H1]; · iexact H1
  iintro ⟨H0, H1⟩
  iapply ((pointsTo_share (PosShare.mem_left_op_right fullShare)).2)
  isplitl [H0 HL]
  · iapply ((pointsTo_split_subset (Finset.subset_univ (src4 A c 0).view.set)).2)
    isplitl [H0] <;> iassumption
  · iapply ((pointsTo_split_subset (Finset.subset_univ (src4 A c 1).view.set)).2)
    isplitl [H1] <;> iassumption

end Cert.KernelIdealProof

end
-- ==== Proof.KernelIdealAttention.lean ====
/-
# The attention of one device, as a step of the program

The middle of the program: from the four transfers under way to the partial product in the accumulator. Each half of the
keys and values is waited for when its first head is read; head by head the output is stored, and the eight outputs are
multiplied by the output weights.
-/
module

public import proofs.«01_k».proof.Proof.KernelIdealLoads

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program's parts 3 to 9, with what follows them. -/
abbrev attnProg (c : Dev nD) (v2 v3 : BitVec 32) (q : FVec F S256x1024 .f32)
    (k : (Σ' (_ : BitVec 32) (_ : BitVec 32) (_ : BitVec 32), BitVec 32) → Prog (TpuEff nD τ sig (Elt F) Λ₀ .tc) PUnit) : Prog (TpuEff nD τ sig (Elt F) Λ₀ .tc) PUnit := do
  let ⟨v72, v78, v79⟩ ← k0_part3 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v3 q
  let ⟨v114, v116⟩ ← k0_part4 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 q v72 v78 v79
  let ⟨v144, v152, v153, cst_118⟩ ← k0_part5 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 q v114 v116
  let ⟨v176, v179, v182⟩ ← k0_part6 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v3 q v144 v152 v153 cst_118
  let v219 ← k0_part7 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 q v176 v179 v182
  let ⟨v254, v255⟩ ← k0_part8 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 q v219
  let ⟨v279, v283, v284, v286⟩ ← k0_part9 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 v2 v254 v255
  k ⟨v279, v283, v284, v286⟩

theorem hz2 : (![0, 0] : Fin 2 → ℕ) = fun _ => 0 := funext fun a => by fin_cases a <;> rfl
theorem hz3 : (![0, 0, 0] : Fin 3 → ℕ) = fun _ => 0 := funext fun a => by fin_cases a <;> rfl

/-- A buffer read whole. -/
theorem wp_take {sh : Shape} {e : EltTy} (c : Dev nD) (M : Memref sig .tc .vmem sh e) (r : Rect sh) (f : Buf (Elt F) (M.view.loc (c : Thread nD τ)))
    (w : r.shape.Idx → Elt F e) (hw : M.view.readAt (Elt F) r.toLoadRect f = w) {h : M.view.LoadsAt r.toLoadRect}
    {α : Type} {Q : α → sProp 𝕄} {k : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (k w) Q)
          -∗ wp frame (wpE (defs₀ (F := F)) 𝒱₀ (c : Thread nD τ) none) Set.univ (.op (.load M r.toLoadRect h) k) Q) := by
  subst hw
  iintro H
  iintro Hk
  iapply (wp_load 𝒱₀ (c : Thread nD τ) none Set.univ (m := M) (Finset.subset_univ _)) $$ H; iintro H
  iapply Hk; iexact H

/-- A buffer written whole, as a kernel writes one: read first. -/
theorem wp_put {sh : Shape} {e : EltTy} (c : Dev nD) (M : Memref sig .tc .vmem sh e) (r : Rect sh) (p : r.shape.Idx → Elt F e)
    (w : Buf (Elt F) (M.view.loc (c : Thread nD τ))) (hw : ∀ f, (M.access r).write (Elt F) f p Finset.univ = w) {h : M.view.LoadsAt r.toLoadRect}
    {h2 : (M.access r).Stores Finset.univ} {h3}
    {α : Type} {Q : α → sProp 𝕄} {k : PUnit → Prog (TpuEff nD τ sig (Elt F) Λ₀ .tc) α} :
    iprop(∃ f, M.view.loc (c : Thread nD τ) ↦{fullShare} f)
      ⊢ iprop(((M.view.loc (c : Thread nD τ) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ
              (.op (.load M r.toLoadRect h) fun _ => .op (.store M r p Finset.univ h2 h3) k) Q) := by
  iintro ⟨%f, H⟩
  iintro Hk
  iapply (wp_load 𝒱₀ (c : Thread nD τ) none Set.univ (m := M) (Finset.subset_univ _)) $$ H; iintro H
  iapply (wp_store 𝒱₀ (c : Thread nD τ) none Set.univ (m := M) (r := r) (Mk := Finset.univ) (Finset.subset_univ _)) $$ H; iintro H
  rw [hw]
  iapply Hk; iexact H

/-- What a device holds as the attention starts: the four transfers under way, the buffers it fills and the weights. -/
def attnPre (c : Dev nD) (wo : S1024x1024.Idx → Elt F .f32) (fk : Buf (Elt F) (kA.view.loc (c : Thread nD τ))) (fv : Buf (Elt F) (vA.view.loc (c : Thread nD τ))) : sProp 𝕄 :=
  iprop(fly kM kA c 0 (ldK 0) fullShare.left fk ∗ fly vM vA c 0 (ldV 0) fullShare.left fv
    ∗ fly kM kA c 1 (ldK 1) fullShare.right fk ∗ fly vM vA c 1 (ldV 1) fullShare.right fv
    ∗ (∃ f, wholeAt (F := F) c cc0_scratch5 f) ∗ wholeAt c cc0_stg2_0 wo ∗ (∃ f, wholeAt (F := F) c cc0_scratch2 f)
    ∗ (∃ W, owes (c : Thread nD τ) (oweR c [0, 1, 2, 3, 4, 5]) W))

/-- What it holds at the end: the partial product in the accumulator, the loads' buffers, shares and semaphores back. -/
def attnPost (c : Dev nD) (wo : S1024x1024.Idx → Elt F .f32) (fk : Buf (Elt F) (kA.view.loc (c : Thread nD τ))) (fv : Buf (Elt F) (vA.view.loc (c : Thread nD τ)))
    (ws : Fin 8 → S256x128.Idx → Elt F .bf16) : sProp 𝕄 :=
  iprop((raw (F := F) kM c 0 ∗ raw (F := F) kM c 1) ∗ (raw (F := F) vM c 0 ∗ raw (F := F) vM c 1)
    ∗ (srcPts kA c 0 fullShare.left fk ∗ srcPts kA c 1 fullShare.right fk) ∗ (srcPts vA c 0 fullShare.left fv ∗ srcPts vA c 1 fullShare.right fv)
    ∗ (semVal ((c : Thread nD τ), .dma (ldK 0)) 0 ∗ semVal ((c : Thread nD τ), .dma (ldK 1)) 0
      ∗ semVal ((c : Thread nD τ), .dma (ldV 0)) 0 ∗ semVal ((c : Thread nD τ), .dma (ldV 1)) 0)
    ∗ (∃ f, wholeAt (F := F) c cc0_scratch5 f) ∗ wholeAt c cc0_stg2_0 wo ∗ wholeAt c cc0_scratch2 (k0_pay27 wo (cols ws) : Acc F)
    ∗ (∃ W, owes (c : Thread nD τ) (oweR c [0, 1, 2, 3, 4, 5]) W))

/-- The eight heads' outputs on device `c`, from its query product and the two caches. -/
abbrev headsOf (c : Dev nD) (q : S256x1024.Idx → Elt F .f32) (fk : Buf (Elt F) (kA.view.loc (c : Thread nD τ))) (fv : Buf (Elt F) (vA.view.loc (c : Thread nD τ)))
    (h : Fin 8) : S256x128.Idx → Elt F .bf16 :=
  headOut h q (head4 (hj h) ((src4 kA c (hg h)).view.read (Elt F) fk)) (head4 (hj h) ((src4 vA c (hg h)).view.read (Elt F) fv))

set_option maxHeartbeats 3200000 in
set_option maxRecDepth 8192 in
/-- The attention, one effect after the other. -/
theorem wp_attn (c : Dev nD) (v2 v3 : BitVec 32) (q : FVec F S256x1024 .f32)
    (k : (Σ' (_ : BitVec 32) (_ : BitVec 32) (_ : BitVec 32), BitVec 32) → Prog (TpuEff nD τ sig (Elt F) Λ₀ .tc) PUnit)
    (wo : S1024x1024.Idx → Elt F .f32) (fk : Buf (Elt F) (kA.view.loc (c : Thread nD τ))) (fv : Buf (Elt F) (vA.view.loc (c : Thread nD τ)))
    {Q : PUnit → sProp 𝕄} :
    iprop(levAts L lv ∗ attnPre c wo fk fv)
      ⊢ iprop((∀ r, attnPost c wo fk fv (headsOf c q fk fv)
            -∗ wp frame (wpE (defs₀ (F := F)) 𝒱₀ (c : Thread nD τ) none) Set.univ (k r) Q)
          -∗ wp frame (wpE (defs₀ (F := F)) 𝒱₀ (c : Thread nD τ) none) Set.univ (attnProg c v2 v3 q k) Q) := by
  unfold attnProg
  simp only [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  simp only [Prog.lift, Prog.bind_op, Prog.bind_ret, Prog.pure_eq_ret]
  unfold attnPre
  iintro ⟨#Hlev, Hk0, Hv0, Hk1, Hv1, ⟨%f5, Hat⟩, Hwo, ⟨%f2, Hacc⟩, HO⟩
  iintro Hk
  iapply (wp_landed kM kA c 0 (ldK 0) (lvS_ldK 0) fullShare.left fk [0, 1, 2, 3, 4, 5]) $$ [Hk0 HO]
  · isplitr; · iexact Hlev
    isplitl [Hk0] <;> iassumption
  iintro ⟨Hk0, Hsk0, Hzk0, HO⟩
  iapply (wp_landed vM vA c 0 (ldV 0) (lvS_ldV 0) fullShare.left fv [0, 1, 2, 3, 4, 5]) $$ [Hv0 HO]
  · isplitr; · iexact Hlev
    isplitl [Hv0] <;> iassumption
  iintro ⟨Hv0, Hsv0, Hzv0, HO⟩
  ihave Hat := (show wholeAt c cc0_scratch5 f5 ⊢ atS c (headsOf c q fk fv) [] from by unfold atS; iintro H; iexists f5; iexact H) $$ Hat
  iapply (wp_head kM c 0 0 _) $$ Hk0; iintro Hk0
  iapply (wp_head vM c 0 0 _) $$ Hv0; iintro Hv0
  iapply (wp_head_store c (headsOf c q fk fv) [] 0 _ (pay_h0 q _ _)) $$ Hat; iintro Hat
  iapply (wp_head kM c 0 1 _) $$ Hk0; iintro Hk0
  iapply (wp_head vM c 0 1 _) $$ Hv0; iintro Hv0
  iapply (wp_head_store c (headsOf c q fk fv) [0] 1 _ (pay_h1 q _ _)) $$ Hat; iintro Hat
  iapply (wp_head kM c 0 2 _) $$ Hk0; iintro Hk0
  iapply (wp_head vM c 0 2 _) $$ Hv0; iintro Hv0
  iapply (wp_head_store c (headsOf c q fk fv) [1, 0] 2 _ (pay_h2 q _ _)) $$ Hat; iintro Hat
  iapply (wp_head kM c 0 3 _) $$ Hk0; iintro Hk0
  iapply (wp_head vM c 0 3 _) $$ Hv0; iintro Hv0
  iapply (wp_head_store c (headsOf c q fk fv) [2, 1, 0] 3 _ (pay_h3 q _ _)) $$ Hat; iintro Hat
  iapply (wp_landed kM kA c 1 (ldK 1) (lvS_ldK 1) fullShare.right fk [0, 1, 2, 3, 4, 5]) $$ [Hk1 HO]
  · isplitr; · iexact Hlev
    isplitl [Hk1] <;> iassumption
  iintro ⟨Hk1, Hsk1, Hzk1, HO⟩
  iapply (wp_landed vM vA c 1 (ldV 1) (lvS_ldV 1) fullShare.right fv [0, 1, 2, 3, 4, 5]) $$ [Hv1 HO]
  · isplitr; · iexact Hlev
    isplitl [Hv1] <;> iassumption
  iintro ⟨Hv1, Hsv1, Hzv1, HO⟩
  iapply (wp_head kM c 1 0 _) $$ Hk1; iintro Hk1
  iapply (wp_head vM c 1 0 _) $$ Hv1; iintro Hv1
  iapply (wp_head_store c (headsOf c q fk fv) [3, 2, 1, 0] 4 _ (pay_h4 q _ _)) $$ Hat; iintro Hat
  iapply (wp_head kM c 1 1 _) $$ Hk1; iintro Hk1
  iapply (wp_head vM c 1 1 _) $$ Hv1; iintro Hv1
  iapply (wp_head_store c (headsOf c q fk fv) [4, 3, 2, 1, 0] 5 _ (pay_h5 q _ _)) $$ Hat; iintro Hat
  iapply (wp_head kM c 1 2 _) $$ Hk1; iintro Hk1
  iapply (wp_head vM c 1 2 _) $$ Hv1; iintro Hv1
  iapply (wp_head_store c (headsOf c q fk fv) [5, 4, 3, 2, 1, 0] 6 _ (pay_h6 q _ _)) $$ Hat; iintro Hat
  iapply (wp_head kM c 1 3 _) $$ Hk1; iintro Hk1
  iapply (wp_head vM c 1 3 _) $$ Hv1; iintro Hv1
  iapply (wp_head_store c (headsOf c q fk fv) [6, 5, 4, 3, 2, 1, 0] 7 _ (pay_h7 q _ _)) $$ Hat; iintro Hat
  ihave Hat := (atS_all c (headsOf c q fk fv)) $$ Hat
  iapply (wp_take c (Memref.whole cc0_stg2_0) _ wo wo (Memref.readAt_unit_zero (Elt F) cc0_stg2_0 hz2 _ wo)) $$ Hwo; iintro Hwo
  iapply (wp_take c atM _ (cols (headsOf c q fk fv)) _ (Memref.readAt_unit_zero (Elt F) cc0_scratch5 hz2 _ _)) $$ Hat; iintro Hat
  iapply (wp_put c accM (Rect.unit (s := S256x1024) ![0, 0] S256x1024.size inb_S256x1024_S256x1024_0_0) _ (k0_pay27 wo (cols (headsOf c q fk fv))) (fun f => Memref.write_access_unit_zero_univ (Elt F) cc0_scratch2 hz2 _ f _)) $$ [Hacc]
  · iexists f2; iexact Hacc
  iintro Hacc
  iapply Hk
  unfold attnPost
  isplitl [Hk0 Hk1]
  · isplitl [Hk0]; · iapply (rdy_raw kM c 0 _); iexact Hk0
    iapply (rdy_raw kM c 1 _); iexact Hk1
  isplitl [Hv0 Hv1]
  · isplitl [Hv0]; · iapply (rdy_raw vM c 0 _); iexact Hv0
    iapply (rdy_raw vM c 1 _); iexact Hv1
  isplitl [Hsk0 Hsk1]; · isplitl [Hsk0] <;> iassumption
  isplitl [Hsv0 Hsv1]; · isplitl [Hsv0] <;> iassumption
  isplitl [Hzk0 Hzk1 Hzv0 Hzv1]
  · isplitl [Hzk0]; · iexact Hzk0
    isplitl [Hzk1]; · iexact Hzk1
    isplitl [Hzv0] <;> iassumption
  isplitl [Hat]; · iexists _; iexact Hat
  isplitl [Hwo]; · iexact Hwo
  isplitl [Hacc]; · iexact Hacc
  iexact HO

end Cert.KernelIdealProof

end
-- ==== Proof.KernelIdealRounds.lean ====
/-
# The six exchanges, as a step of the program

The last part of the program: from a partial product in the accumulator, round after round, to the result's block.
-/
module

public import proofs.«01_k».proof.Proof.KernelIdealAttention

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program's parts 10 to 17 and its end. -/
abbrev exchProg (c : Dev nD) (v2 v279 v283 v284 v286 : BitVec 32) : Prog (TpuEff nD τ sig (Elt F) Λ₀ .tc) PUnit := do
  let v318 ← k0_part10 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v284 v286
  let ⟨v329, v331⟩ ← k0_part11 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v279 v318
  let ⟨v374, v376, v383⟩ ← k0_part12 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v283 v329 v331
  let ⟨v408, v410⟩ ← k0_part13 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v374 v376 v383
  let v419 ← k0_part14 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v408 v410
  let ⟨v457, v458⟩ ← k0_part15 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v408 v419
  let ⟨v496, v497, v501, v502⟩ ← k0_part16 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v2 v457 v458
  let ⟨v527, v528⟩ ← k0_part17 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c v496 v497 v501 v502
  let v532 : Vec F S128x1024 .f32 ← Prog.lift (.load accM (Rect.unit (s := S256x1024) (k0_off13 c) S128x1024.size (k0_off13_inb c)).toLoadRect (View.loadsAt_vmem h_S128x1024))
  Prog.lift (.store accM (Rect.unit (s := S256x1024) (k0_off13 c) S128x1024.size (k0_off13_inb c)) (k0_pay1 v528) Finset.univ (View.stores_vmem_bits_univ h_S128x1024 rfl) (.inl rfl))
  let v535 : Vec F S256x1024 .f32 ← Prog.lift (.load accM (Rect.unit (s := S256x1024) ![0, 0] S256x1024.size inb_S256x1024_S256x1024_0_0).toLoadRect (View.loadsAt_vmem h_S256x1024))
  let v536 : Vec F S1x256x1024 .f32 ← Prog.lift (.load (Memref.whole cc0_stg3_0) (Rect.unit (s := S1x256x1024) ![0, 0, 0] S1x256x1024.size inb_S1x256x1024_S1x256x1024_0_0_0).toLoadRect (View.loadsAt_vmem h_S1x256x1024))
  Prog.lift (.store (Memref.whole cc0_stg3_0) (Rect.unit (s := S1x256x1024) ![0, 0, 0] S1x256x1024.size inb_S1x256x1024_S1x256x1024_0_0_0) (k0_pay2 v535) Finset.univ (View.stores_vmem_bits_univ h_S1x256x1024 rfl) (.inl rfl))
  pure ⟨⟩

/-- What device `c` holds as the rounds start: the partners' slots, and its tokens for every round. -/
def exchPre (c : Dev nD) (a : Dev nD → Acc F) : sProp 𝕄 :=
  iprop(wholeAt c cc0_scratch2 (accAt a 0 c) ∗ (∃ f, wholeAt (F := F) c cc0_scratch3 f) ∗ (∃ f, wholeAt (F := F) c cc0_stg3_0 f)
    ∗ (rnd (F := F) 0 c ∗ rnd (F := F) 1 c ∗ rnd (F := F) 2 c ∗ rnd (F := F) 3 c ∗ rnd (F := F) 4 c ∗ rnd (F := F) 5 c)
    ∗ ((∃ f, slotPts (F := F) 0 (pr (mk 0) c) f) ∗ (∃ f, slotPts (F := F) 1 (pr (mk 1) c) f) ∗ (∃ f, slotPts (F := F) 2 (pr (mk 2) c) f) ∗ (∃ f, slotPts (F := F) 3 (pr (mk 3) c) f) ∗ (∃ f, slotPts (F := F) 4 (pr (mk 4) c) f) ∗ (∃ f, slotPts (F := F) 5 (pr (mk 5) c) f))
    ∗ (∃ W, owes (c : Thread nD τ) (oweR c [0, 1, 2, 3, 4, 5]) W))

/-- Device `c`'s own six slots, with any contents. -/
def slots (c : Dev nD) : sProp 𝕄 := iprop((∃ f, slotPts (F := F) 0 c f) ∗ (∃ f, slotPts (F := F) 1 c f) ∗ (∃ f, slotPts (F := F) 2 c f) ∗ (∃ f, slotPts (F := F) 3 c f) ∗ (∃ f, slotPts (F := F) 4 c f) ∗ (∃ f, slotPts (F := F) 5 c f))
/-- Device `c`'s send and receive cells at zero. -/
def closed (c : Dev nD) : sProp 𝕄 := iprop((semVal (sendCell c 0) 0 ∗ semVal (sendCell c 1) 0 ∗ semVal (sendCell c 2) 0 ∗ semVal (sendCell c 3) 0 ∗ semVal (sendCell c 4) 0 ∗ semVal (sendCell c 5) 0) ∗ (semVal (recvCell c 0) 0 ∗ semVal (recvCell c 1) 0 ∗ semVal (recvCell c 2) 0 ∗ semVal (recvCell c 3) 0 ∗ semVal (recvCell c 4) 0 ∗ semVal (recvCell c 5) 0))

/-- What it holds at the end: the accumulator after six exchanges as the result's block, its own slots and cells back. -/
def exchPost (c : Dev nD) (a : Dev nD → Acc F) : sProp 𝕄 :=
  iprop((∃ f, wholeAt (F := F) c cc0_scratch2 f) ∗ (∃ f, wholeAt (F := F) c cc0_scratch3 f)
    ∗ wholeAt c cc0_stg3_0 (k0_pay2 (accAt a 6 c)) ∗ slots (F := F) c ∗ closed (F := F) c
    ∗ (∃ W, owes (c : Thread nD τ) 0 W))

variable (K : Dev nD × CK → ℕ)

set_option maxHeartbeats 3200000 in
set_option maxRecDepth 8192 in
/-- The six rounds and the result's store, one after the other. -/
theorem wp_exch (c : Dev nD) (v2 v279 v283 v284 v286 : BitVec 32) (a : Dev nD → Acc F) {Q : PUnit → sProp 𝕄} :
    iprop(records (sntAt a) K ∗ levAts L lv ∗ exchPre c a)
      ⊢ iprop((exchPost c a -∗ Q ⟨⟩) -∗ wp frame (wpE (defs₀ (F := F)) 𝒱₀ (c : Thread nD τ) none) Set.univ (exchProg c v2 v279 v283 v284 v286) Q) := by
  unfold exchProg
  simp only [k0_part10_eq_skeleton, k0_part11_eq_skeleton, k0_part12_eq_skeleton, k0_part13_eq_skeleton, k0_part14_eq_skeleton, k0_part15_eq_skeleton, k0_part16_eq_skeleton, k0_part17_eq_skeleton]
  unfold k0_part10_skel k0_part11_skel k0_part12_skel k0_part13_skel k0_part14_skel k0_part15_skel k0_part16_skel k0_part17_skel
  simp only [Prog.lift, Prog.bind_op, Prog.bind_ret, Prog.pure_eq_ret]
  unfold exchPre
  iintro ⟨#Hrec, #Hlev, Ha, Hs, Hout, ⟨Hr0, Hr1, Hr2, Hr3, Hr4, Hr5⟩, ⟨Hd0, Hd1, Hd2, Hd3, Hd4, Hd5⟩, HO⟩
  iintro Hk
  iapply (wp_round_add (sntAt a) K c _ 0 [1, 2, 3, 4, 5] (dev4_eq c) (by decide) k0_pay28 (fun _ => rfl) rfl k0_pay29 (fun _ _ => rfl) (accAt a 0 c) rfl) $$ [Hr0 Ha Hs Hd0 HO]
  · isplitr; · iexact Hrec
    isplitr; · iexact Hlev
    isplitl [Hr0]; · iexact Hr0
    isplitl [Ha]; · iexact Ha
    isplitl [Hs]; · iexact Hs
    isplitl [Hd0]; · iexact Hd0
    iexact HO
  iintro ⟨HO, Ha, Hs, Hd0, Hz0, Hy0⟩
  ihave Ha := (Entails.of_eq (show wholeAt c cc0_scratch2 (stored 0 c (accAt a 0 c) (sntAt a 0 (pr (mk 0) c))) = wholeAt c cc0_scratch2 (accAt a 1 c) from
    congrArg (wholeAt c cc0_scratch2) (accAt_succ a 0 c).symm)) $$ Ha
  iapply (wp_round_add (sntAt a) K c _ 1 [2, 3, 4, 5] (dev5_eq c) (by decide) k0_pay30 (fun _ => rfl) rfl k0_pay31 (fun _ _ => rfl) (accAt a 1 c) rfl) $$ [Hr1 Ha Hs Hd1 HO]
  · isplitr; · iexact Hrec
    isplitr; · iexact Hlev
    isplitl [Hr1]; · iexact Hr1
    isplitl [Ha]; · iexact Ha
    isplitl [Hs]; · iexact Hs
    isplitl [Hd1]; · iexact Hd1
    iexact HO
  iintro ⟨HO, Ha, Hs, Hd1, Hz1, Hy1⟩
  ihave Ha := (Entails.of_eq (show wholeAt c cc0_scratch2 (stored 1 c (accAt a 1 c) (sntAt a 1 (pr (mk 1) c))) = wholeAt c cc0_scratch2 (accAt a 2 c) from
    congrArg (wholeAt c cc0_scratch2) (accAt_succ a 1 c).symm)) $$ Ha
  iapply (wp_round_add (sntAt a) K c _ 2 [3, 4, 5] (dev6_eq c) (by decide) (fun v => k0_pay33 (k0_pay32 v)) (fun _ => rfl) rfl k0_pay34 (fun _ _ => rfl) (accAt a 2 c) rfl) $$ [Hr2 Ha Hs Hd2 HO]
  · isplitr; · iexact Hrec
    isplitr; · iexact Hlev
    isplitl [Hr2]; · iexact Hr2
    isplitl [Ha]; · iexact Ha
    isplitl [Hs]; · iexact Hs
    isplitl [Hd2]; · iexact Hd2
    iexact HO
  iintro ⟨HO, Ha, Hs, Hd2, Hz2, Hy2⟩
  ihave Ha := (Entails.of_eq (show wholeAt c cc0_scratch2 (stored 2 c (accAt a 2 c) (sntAt a 2 (pr (mk 2) c))) = wholeAt c cc0_scratch2 (accAt a 3 c) from
    congrArg (wholeAt c cc0_scratch2) (accAt_succ a 2 c).symm)) $$ Ha
  iapply (wp_round_copy (sntAt a) K c _ 3 [4, 5] (dev7_eq c) (by decide) k0_pay35 (fun _ => rfl) rfl k0_pay36 (fun _ _ => rfl) (accAt a 3 c) rfl) $$ [Hr3 Ha Hs Hd3 HO]
  · isplitr; · iexact Hrec
    isplitr; · iexact Hlev
    isplitl [Hr3]; · iexact Hr3
    isplitl [Ha]; · iexact Ha
    isplitl [Hs]; · iexact Hs
    isplitl [Hd3]; · iexact Hd3
    iexact HO
  iintro ⟨HO, Ha, Hs, Hd3, Hz3, Hy3⟩
  ihave Ha := (Entails.of_eq (show wholeAt c cc0_scratch2 (stored 3 c (accAt a 3 c) (sntAt a 3 (pr (mk 3) c))) = wholeAt c cc0_scratch2 (accAt a 4 c) from
    congrArg (wholeAt c cc0_scratch2) (accAt_succ a 3 c).symm)) $$ Ha
  iapply (wp_round_copy (sntAt a) K c _ 4 [5] (dev8_eq c) (by decide) k0_pay37 (fun _ => rfl) rfl k0_pay38 (fun _ _ => rfl) (accAt a 4 c) rfl) $$ [Hr4 Ha Hs Hd4 HO]
  · isplitr; · iexact Hrec
    isplitr; · iexact Hlev
    isplitl [Hr4]; · iexact Hr4
    isplitl [Ha]; · iexact Ha
    isplitl [Hs]; · iexact Hs
    isplitl [Hd4]; · iexact Hd4
    iexact HO
  iintro ⟨HO, Ha, Hs, Hd4, Hz4, Hy4⟩
  ihave Ha := (Entails.of_eq (show wholeAt c cc0_scratch2 (stored 4 c (accAt a 4 c) (sntAt a 4 (pr (mk 4) c))) = wholeAt c cc0_scratch2 (accAt a 5 c) from
    congrArg (wholeAt c cc0_scratch2) (accAt_succ a 4 c).symm)) $$ Ha
  iapply (wp_round_copy (sntAt a) K c _ 5 [] (dev9_eq c) (by decide) (fun v => k0_pay40 (k0_pay39 v)) (fun _ => rfl) rfl k0_pay1 (fun _ _ => rfl) (accAt a 5 c) rfl) $$ [Hr5 Ha Hs Hd5 HO]
  · isplitr; · iexact Hrec
    isplitr; · iexact Hlev
    isplitl [Hr5]; · iexact Hr5
    isplitl [Ha]; · iexact Ha
    isplitl [Hs]; · iexact Hs
    isplitl [Hd5]; · iexact Hd5
    iexact HO
  iintro ⟨HO, Ha, Hs, Hd5, Hz5, Hy5⟩
  ihave Ha := (Entails.of_eq (show wholeAt c cc0_scratch2 (stored 5 c (accAt a 5 c) (sntAt a 5 (pr (mk 5) c))) = wholeAt c cc0_scratch2 (accAt a 6 c) from
    congrArg (wholeAt c cc0_scratch2) (accAt_succ a 5 c).symm)) $$ Ha
  iapply (wp_take c accM _ (accAt a 6 c) _ (Memref.readAt_unit_zero (Elt F) cc0_scratch2 hz2 _ _)) $$ Ha; iintro Ha
  iapply (wp_put c (Memref.whole cc0_stg3_0) (Rect.unit (s := S1x256x1024) ![0, 0, 0] S1x256x1024.size inb_S1x256x1024_S1x256x1024_0_0_0) _ (k0_pay2 (accAt a 6 c))
    (fun f => Memref.write_access_unit_zero_univ (Elt F) cc0_stg3_0 hz3 _ f _)) $$ Hout
  iintro Hout
  rw [wp_ret]; imodintro
  iapply Hk
  unfold exchPost slots closed
  isplitl [Ha]; · iexists _; iexact Ha
  isplitl [Hs]; · iexact Hs
  isplitl [Hout]; · iexact Hout
  isplitl [Hd0 Hd1 Hd2 Hd3 Hd4 Hd5]
  · isplitl [Hd0]; · iexact Hd0
    isplitl [Hd1]; · iexact Hd1
    isplitl [Hd2]; · iexact Hd2
    isplitl [Hd3]; · iexact Hd3
    isplitl [Hd4]; · iexact Hd4
    iexact Hd5
  isplitl [Hz0 Hz1 Hz2 Hz3 Hz4 Hz5 Hy0 Hy1 Hy2 Hy3 Hy4 Hy5]
  · isplitl [Hz0 Hz1 Hz2 Hz3 Hz4 Hz5]
    · isplitl [Hz0]; · iexact Hz0
      isplitl [Hz1]; · iexact Hz1
      isplitl [Hz2]; · iexact Hz2
      isplitl [Hz3]; · iexact Hz3
      isplitl [Hz4]; · iexact Hz4
      iexact Hz5
    · isplitl [Hy0]; · iexact Hy0
      isplitl [Hy1]; · iexact Hy1
      isplitl [Hy2]; · iexact Hy2
      isplitl [Hy3]; · iexact Hy3
      isplitl [Hy4]; · iexact Hy4
      iexact Hy5
  iexact HO

end Cert.KernelIdealProof

end
-- ==== Proof.KernelIdealEntry.lean ====
/-
# The entry handshake and the first loads, as a step of the program

Each device tells its three partners that its landing slots may be written, waits until all three have told it so, and
starts the four transfers of its heads of the two caches.
-/
module

public import proofs.«01_k».proof.Proof.KernelIdealRounds

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program's parts 1 and 2, with what follows them. -/
abbrev headProg (k : Dev nD → BitVec 32 → BitVec 32 → FVec F S256x1024 .f32 → Prog (TpuEff nD τ sig (Elt F) Λ₀ .tc) PUnit) : Prog (TpuEff nD τ sig (Elt F) Λ₀ .tc) PUnit := do
  let ⟨d0, v2, v3⟩ ← k0_part1 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
  let v36 ← k0_part2 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 d0 v3
  k d0 v2 v3 v36

/-- The partners' slots device `c` writes, with any contents. -/
def peers (c : Dev nD) : sProp 𝕄 := iprop((∃ f, slotPts (F := F) 0 (pr (mk 0) c) f) ∗ (∃ f, slotPts (F := F) 1 (pr (mk 1) c) f) ∗ (∃ f, slotPts (F := F) 2 (pr (mk 2) c) f) ∗ (∃ f, slotPts (F := F) 3 (pr (mk 3) c) f) ∗ (∃ f, slotPts (F := F) 4 (pr (mk 4) c) f) ∗ (∃ f, slotPts (F := F) 5 (pr (mk 5) c) f))

/-- What a device holds at entry for the handshake: its position, the three tokens it signals with, the credit it waits for. -/
def bars (c : Dev nD) : sProp 𝕄 :=
  iprop(atPos ER (barCell c) 0 ∅ 0 ∗ (dutyTok ER (barCell (pr 0 c)) 0 0 ∗ dutyTok ER (barCell (pr 1 c)) 0 1 ∗ dutyTok ER (barCell (pr 2 c)) 0 2)
    ∗ cred (tallyAt (barCell c) () 3))

/-- The four load semaphores at zero. -/
def ldSems (c : Dev nD) : sProp 𝕄 :=
  iprop(semVal ((c : Thread nD τ), .dma (ldK 0)) 0 ∗ semVal ((c : Thread nD τ), .dma (ldK 1)) 0
      ∗ semVal ((c : Thread nD τ), .dma (ldV 0)) 0 ∗ semVal ((c : Thread nD τ), .dma (ldV 1)) 0)

/-- The four transfers under way. -/
def flights (c : Dev nD) (fk : Buf (Elt F) (kA.view.loc (c : Thread nD τ))) (fv : Buf (Elt F) (vA.view.loc (c : Thread nD τ))) : sProp 𝕄 :=
  iprop(fly kM kA c 0 (ldK 0) fullShare.left fk ∗ fly vM vA c 0 (ldV 0) fullShare.left fv
    ∗ fly kM kA c 1 (ldK 1) fullShare.right fk ∗ fly vM vA c 1 (ldV 1) fullShare.right fv)

/-- What the partner under mask `d` is handed: device `c`'s own two slots of that mask. -/
theorem barPay_own (d : Fin 3) (c : Dev nD) :
    barPay d (pr d c) = (iprop((∃ f, slotPts (F := F) (lo d) c f) ∗ (∃ f, slotPts (F := F) (hi d) c f)) : sProp 𝕄) := by
  unfold barPay; rw [pr_pr]

variable (snt : (r : Fin 6) → Dev nD → (sh r).Idx → Elt F .bf16)
variable (K : Dev nD × CK → ℕ)

/-- One entry signal. -/
theorem wp_hello (c n : Dev nD) (d : Fin 3) (hn : n = pr d c) (O O' : CellTallies nD τ sig Unit) (hO : O = O' + tallyAt (barCell (pr d c)) () 1)
    (W : Waits sig Unit) {α : Type} {Q : α → sProp 𝕄} {k : PUnit → Prog (TpuEff nD τ sig (Elt F) Λ₀ .tc) α} :
    iprop(records snt K ∗ owes (c : Thread nD τ) O W ∗ dutyTok ER (barCell (pr d c)) 0 d
        ∗ ((∃ f, slotPts (F := F) (lo d) c f) ∗ (∃ f, slotPts (F := F) (hi d) c f)))
      ⊢ iprop((owes (c : Thread nD τ) O' W -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS 1) k) Q) := by
  subst hn
  iintro ⟨#Hrec, HO, Ht, Hp⟩
  iintro Hk
  iapply (Rounds.wp_signal 𝒱₀ ER (Rd (F := F) snt) (c : Thread nD τ) none (dst := (pr d c : Thread nD τ)) (κ := K (pr d c, none))
      (d := d) (by rw [duties_bar]; exact Finset.mem_univ _) (amount_bar snt (pr d c) d) () O' hO) $$ [HO Ht Hp]
  · isplitr; · iapply (inv_at snt K (pr d c, none)); iexact Hrec
    isplitl [HO]; · iexact HO
    isplitl [Ht]; · iexact Ht
    isplitl [Hp]; · rw [payload_bar, barPay_own]; iexact Hp
    iapply (reached_at snt K (pr d c, none)); iexact Hrec
  iintro HO
  iapply Hk; iexact HO

set_option maxHeartbeats 3200000 in
set_option maxRecDepth 8192 in
/-- The handshake and the transfers issued. -/
theorem wp_entry (c : Dev nD) (x : S1x256x1024.Idx → Elt F .f32) (wq : S1024x1024.Idx → Elt F .f32)
    (fk : Buf (Elt F) (kA.view.loc (c : Thread nD τ))) (fv : Buf (Elt F) (vA.view.loc (c : Thread nD τ)))
    (k : Dev nD → BitVec 32 → BitVec 32 → FVec F S256x1024 .f32 → Prog (TpuEff nD τ sig (Elt F) Λ₀ .tc) PUnit) {Q : PUnit → sProp 𝕄} :
    iprop(records snt K ∗ levAts L lv ∗ bars c ∗ slots (F := F) c ∗ (raw (F := F) kM c 0 ∗ raw (F := F) kM c 1) ∗ (raw (F := F) vM c 0 ∗ raw (F := F) vM c 1)
        ∗ (srcPts kA c 0 fullShare.left fk ∗ srcPts kA c 1 fullShare.right fk) ∗ (srcPts vA c 0 fullShare.left fv ∗ srcPts vA c 1 fullShare.right fv)
        ∗ ldSems c ∗ wholeAt c cc0_stg0_0 x ∗ wholeAt c cc0_stg1_0 wq ∗ (∃ W, owes (c : Thread nD τ) (O₀ c) W))
      ⊢ iprop((∀ v2 v3, (peers (F := F) c ∗ flights c fk fv ∗ wholeAt c cc0_stg0_0 x ∗ wholeAt c cc0_stg1_0 wq ∗ semVal (barCell c) 0
              ∗ (∃ W, owes (c : Thread nD τ) (oweR c [0, 1, 2, 3, 4, 5]) W))
            -∗ wp frame (wpE (defs₀ (F := F)) 𝒱₀ (c : Thread nD τ) none) Set.univ (k c v2 v3 (k0_pay3 x wq)) Q)
          -∗ wp frame (wpE (defs₀ (F := F)) 𝒱₀ (c : Thread nD τ) none) Set.univ (headProg k) Q) := by
  unfold headProg
  simp only [k0_part1_eq_skeleton, k0_part2_eq_skeleton]
  unfold k0_part1_skel k0_part2_skel
  simp only [semSignalWord, semWaitWord, Prog.lift, Prog.bind_op, Prog.bind_ret, Prog.pure_eq_ret, wp_deviceId]
  unfold bars slots ldSems
  iintro ⟨#Hrec, #Hlev, ⟨Hat, ⟨Ht0, Ht1, Ht2⟩, Hcr⟩, ⟨Hs0, Hs1, Hs2, Hs3, Hs4, Hs5⟩, ⟨Hk0, Hk1⟩, ⟨Hv0, Hv1⟩, ⟨Hsk0, Hsk1⟩, ⟨Hsv0, Hsv1⟩,
    ⟨Hzk0, Hzk1, Hzv0, Hzv1⟩, Hx, Hwq, ⟨%W, HO⟩⟩
  iintro Hk
  iapply (wp_hello snt K c _ 1 (dev1_eq c) (O₀ c) (O₁ c) rfl W) $$ [HO Ht1 Hs1 Hs4]
  · isplitr; · iexact Hrec
    isplitl [HO]; · iexact HO
    isplitl [Ht1]; · iexact Ht1
    isplitl [Hs1]; · iexact Hs1
    iexact Hs4
  iintro HO
  iapply (wp_hello snt K c _ 0 (dev2_eq c) (O₁ c) (O₂ c) rfl W) $$ [HO Ht0 Hs0 Hs5]
  · isplitr; · iexact Hrec
    isplitl [HO]; · iexact HO
    isplitl [Ht0]; · iexact Ht0
    isplitl [Hs0]; · iexact Hs0
    iexact Hs5
  iintro HO
  iapply (wp_hello snt K c _ 2 (dev3_eq c) (O₂ c) (O₃ c) rfl W) $$ [HO Ht2 Hs2 Hs3]
  · isplitr; · iexact Hrec
    isplitl [HO]; · iexact HO
    isplitl [Ht2]; · iexact Ht2
    isplitl [Hs2]; · iexact Hs2
    iexact Hs3
  iintro HO
  iapply (Rounds.wp_wait_rest_token 𝒱₀ ER (Rd (F := F) snt) (c : Thread nD τ) none (κ := K (c, none))
      (wpE_semWait_eq 𝒱₀ (c : Thread nD τ) none Set.univ) (Set.mem_univ _) () (O := O₃ c) (W := W) (R := 0) (m := 0) (T := ∅)
      (by rw [expect_bar]; decide)) $$ [Hcr HO Hat]
  · isplitr; · iapply (inv_at snt K (c, none)); iexact Hrec
    isplitl [Hcr]; · iexact Hcr
    isplitl [HO]; · iexact HO
    isplitr; · iapply (mayWait_oweR c (.reg barS) [0, 1, 2, 3, 4, 5] (fun r h => by rw [lvS_bar]; omega)); iexact Hlev
    iexact Hat
  iintro ⟨HO, Hat, -, Hpay⟩
  ihave Hp := (Entails.of_eq (rest_bar snt c)) $$ Hpay
  imod (Rounds.cell_close ER (Rd (F := F) snt) (Set.mem_univ (K (c, none))) (fun h => h) (R := 0 + 1) (duties_later snt (barCell c))) $$ [Hat] with Hz
  · isplitr; · iapply (inv_at snt K (c, none)); iexact Hrec
    iexact Hat
  unfold barPay
  icases Hp with ⟨⟨Hp0, Hp5⟩, ⟨Hp1, Hp4⟩, ⟨Hp2, Hp3⟩⟩
  iapply (wp_fetch kM kA c 0 (ldK 0) fullShare.left fk) $$ [Hk0 Hsk0 Hzk0]
  · isplitl [Hsk0]; · iexact Hsk0
    isplitl [Hk0] <;> iassumption
  iintro Hk0
  iapply (wp_fetch vM vA c 0 (ldV 0) fullShare.left fv) $$ [Hv0 Hsv0 Hzv0]
  · isplitl [Hsv0]; · iexact Hsv0
    isplitl [Hv0] <;> iassumption
  iintro Hv0
  iapply (wp_take c (Memref.whole cc0_stg0_0) _ x x (Memref.readAt_unit_zero (Elt F) cc0_stg0_0 hz3 _ x)) $$ Hx; iintro Hx
  iapply (wp_take c (Memref.whole cc0_stg1_0) _ wq wq (Memref.readAt_unit_zero (Elt F) cc0_stg1_0 hz2 _ wq)) $$ Hwq; iintro Hwq
  iapply (wp_fetch kM kA c 1 (ldK 1) fullShare.right fk) $$ [Hk1 Hsk1 Hzk1]
  · isplitl [Hsk1]; · iexact Hsk1
    isplitl [Hk1] <;> iassumption
  iintro Hk1
  iapply (wp_fetch vM vA c 1 (ldV 1) fullShare.right fv) $$ [Hv1 Hsv1 Hzv1]
  · isplitl [Hsv1]; · iexact Hsv1
    isplitl [Hv1] <;> iassumption
  iintro Hv1
  iapply Hk
  unfold peers flights
  isplitl [Hp0 Hp1 Hp2 Hp3 Hp4 Hp5]
  · isplitl [Hp0]; · iexact Hp0
    isplitl [Hp1]; · iexact Hp1
    isplitl [Hp2]; · iexact Hp2
    isplitl [Hp3]; · iexact Hp3
    isplitl [Hp4]; · iexact Hp4
    iexact Hp5
  isplitl [Hk0 Hk1 Hv0 Hv1]
  · isplitl [Hk0]; · iexact Hk0
    isplitl [Hv0]; · iexact Hv0
    isplitl [Hk1]; · iexact Hk1
    iexact Hv1
  isplitl [Hx]; · iexact Hx
  isplitl [Hwq]; · iexact Hwq
  isplitl [Hz]; · iexact Hz
  iexists _; iexact HO

end Cert.KernelIdealProof

end
-- ==== Proof.KernelIdealBody.lean ====
/-
# The whole body on one device

The pieces put together: what a device's buffers hold at the call, what it starts from, what it leaves, and the proof that
the body takes the one to the other.
-/
module

public import proofs.«01_k».proof.Proof.KernelIdealEntry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Splitting a buffer into its parts -/

theorem slot_eq (r : Fin 6) : (slotM r).view.set = (Rect.unit (s := S6x128x1024) ![r.val, 0, 0] (sh1 r).size (slot_inb r)).set :=
  (View.set_reshape _ _).trans (View.set_slice_whole _ _)

/-- The six landing slots touch no row in common. -/
theorem slots_disjoint (r r' : Fin 6) (h : r ≠ r') : Disjoint (slotM r).view.set (slotM r').view.set := by
  have h1 : r.val ≠ r'.val := fun e => h (Fin.ext e)
  rw [slot_eq, slot_eq]
  refine Rect.unit_disjoint 0 ?_
  show r.val + 1 ≤ r'.val ∨ r'.val + 1 ≤ r.val
  omega

/-- The landing buffer is its six slots and what surrounds them; the slots, whatever they then hold, make it up again. -/
theorem slots_split (c : Dev nD) (f : Buf (Elt F) ((c : Thread nD τ).loc cc0_scratch4)) :
    wholeAt c cc0_scratch4 f ⊢ iprop(slots (F := F) c ∗ (slots (F := F) c -∗ ∃ f', wholeAt (F := F) c cc0_scratch4 f')) := by
  have hU (Φ : Fin 6 → sProp 𝕄) : bigSep Finset.univ Φ = iprop(Φ 0 ∗ Φ 1 ∗ Φ 2 ∗ Φ 3 ∗ Φ 4 ∗ Φ 5) :=
    bigSep_univ_eq_bigSepL [0, 1, 2, 3, 4, 5] (by decide) (by decide) Φ
  let T (r : Fin 6) : Finset (Idx ((c : Thread nD τ).loc cc0_scratch4)) := (slotM r).view.set
  have hS : slots (F := F) c = bigSep Finset.univ fun r : Fin 6 => (iprop(∃ f : Buf (Elt F) ((c : Thread nD τ).loc cc0_scratch4),
      ((c : Thread nD τ).loc cc0_scratch4 ↦[T r]{fullShare} f)) : sProp 𝕄) := by rw [hU]; rfl
  have hd : ∀ t ∈ (Finset.univ : Finset (Fin 6)), ∀ t' ∈ Finset.univ, t ≠ t' → Disjoint (T t) (T t') :=
    fun t _ t' _ h => slots_disjoint t t' h
  have hin : (bigSep Finset.univ fun r : Fin 6 => ((c : Thread nD τ).loc cc0_scratch4 ↦[T r]{fullShare} f : sProp 𝕄)) ⊢ slots (F := F) c := by
    have h1 (r : Fin 6) : ((c : Thread nD τ).loc cc0_scratch4 ↦[T r]{fullShare} f : sProp 𝕄)
        ⊢ iprop(∃ f : Buf (Elt F) ((c : Thread nD τ).loc cc0_scratch4), ((c : Thread nD τ).loc cc0_scratch4 ↦[T r]{fullShare} f)) := by
      iintro H; iexists f; iexact H
    rw [hS]; exact bigSep_mono fun r _ => h1 r
  have hout : slots (F := F) c ⊢ iprop(∃ g, (c : Thread nD τ).loc cc0_scratch4 ↦[Finset.univ.biUnion T]{fullShare} g) := by
    rw [hS]
    iintro H
    ihave H := (BI.bigSep_exists_pi Finset.univ fun (r : Fin 6) f => ((c : Thread nD τ).loc cc0_scratch4 ↦[T r]{fullShare} f : sProp 𝕄)) $$ H
    icases H with ⟨%fs, H⟩
    ihave H := (pointsTo_biUnion_join Finset.univ T fs (fs 0) hd) $$ H
    icases H with ⟨%g, -, H⟩
    iexists g; iexact H
  iintro H
  ihave H := ((pointsTo_split_subset (Finset.subset_univ (Finset.univ.biUnion T))).1) $$ H
  icases H with ⟨Hs, Hrest⟩
  isplitl [Hs]
  · iapply hin
    iapply (Entails.of_eq (pointsTo_biUnion Finset.univ T hd)); iexact Hs
  iintro Hs
  ihave Hs := hout $$ Hs
  icases Hs with ⟨%g, Hs⟩
  iexists _
  iapply (pointsTo_join_subset (Finset.subset_univ (Finset.univ.biUnion T)))
  isplitl [Hs]; · iexact Hs
  iexact Hrest

/-- The two halves of either buffer touch no row in common. -/
theorem halves_disjoint (b : Ref sig .tc) (hb : b = cc0_scratch0 ∨ b = cc0_scratch1) :
    Disjoint (half4 kM 0).view.set (half4 kM 1).view.set ∧ Disjoint (half4 vM 0).view.set (half4 vM 1).view.set := by
  have h : Disjoint (Rect.unit (s := S2x4096x4x128) ![((0 : Fin 2) : ℕ), 0, 0, 0] S1x4096x4x128.size (kslot_inb 0)).set
      (Rect.unit (s := S2x4096x4x128) ![((1 : Fin 2) : ℕ), 0, 0, 0] S1x4096x4x128.size (kslot_inb 1)).set :=
    Rect.unit_disjoint 0 (Or.inl (show 0 + 1 ≤ 1 by omega))
  refine ⟨?_, ?_⟩
  · have e (g : Fin 2) : (half4 kM g).view.set = (Rect.unit (s := S2x4096x4x128) ![g.val, 0, 0, 0] S1x4096x4x128.size (kslot_inb g)).set :=
      (View.set_reshape _ _).trans (View.set_slice_whole _ _)
    rw [e, e]; exact h
  · have e (g : Fin 2) : (half4 vM g).view.set = (Rect.unit (s := S2x4096x4x128) ![g.val, 0, 0, 0] S1x4096x4x128.size (kslot_inb g)).set :=
      (View.set_reshape _ _).trans (View.set_slice_whole _ _)
    rw [e, e]; exact h

/-! ## What the buffers hold -/

variable (m : (ℓ : Loc nD τ sig) → Buf (Elt F) ℓ) (ρ : Dev nD → PrngReg)

/-- The state at the call. -/
def s₀ : MemSt nD τ sig (Elt F) := ⟨m, fun _ => 0, ρ⟩

/-- The activations device `c` works on. -/
def xstg (c : Dev nD) : (cc0_stg0_0 : Ref sig .tc).ty.Contents (Elt F) := (win0_0.blk t0_0).view.read (Elt F) ((s₀ m ρ).mem ((c : Thread nD τ).loc main_arg0))
/-- Its columns of the query weights. -/
def qstg (c : Dev nD) : (cc0_stg1_0 : Ref sig .tc).ty.Contents (Elt F) := (win0_1.blk t0_0).view.read (Elt F) ((s₀ m ρ).mem ((c : Thread nD τ).loc main_arg1))
/-- Its rows of the output weights. -/
def ostg (c : Dev nD) : (cc0_stg2_0 : Ref sig .tc).ty.Contents (Elt F) := (win0_2.blk t0_0).view.read (Elt F) ((s₀ m ρ).mem ((c : Thread nD τ).loc main_arg4))
/-- The key cache. -/
def kbuf (c : Dev nD) : Buf (Elt F) ((c : Thread nD τ).loc main_arg2) := (s₀ m ρ).mem ((c : Thread nD τ).loc main_arg2)
/-- The value cache. -/
def vbuf (c : Dev nD) : Buf (Elt F) ((c : Thread nD τ).loc main_arg3) := (s₀ m ρ).mem ((c : Thread nD τ).loc main_arg3)

/-- Device `c`'s partial product. -/
def acc0 (c : Dev nD) : Acc F := k0_pay27 (ostg m ρ c) (cols (headsOf c (k0_pay3 (xstg m ρ c) (qstg m ρ c)) (kbuf m ρ c) (vbuf m ρ c)))
/-- What each device sends in each round. -/
def snt : (r : Fin 6) → Dev nD → (sh r).Idx → Elt F .bf16 := sntAt (acc0 m ρ)
/-- Device `c`'s result: its accumulator after the six rounds. -/
def outAt (c : Dev nD) : (cc0_stg3_0 : Ref sig .tc).ty.Contents (Elt F) := k0_pay2 (accAt (acc0 m ρ) 6 c)

/-! ## What a device starts from and leaves -/

/-- The two caches, whole. -/
def caches (c : Dev nD) : sProp 𝕄 := iprop(wholeAt c main_arg2 (kbuf m ρ c) ∗ wholeAt c main_arg3 (vbuf m ρ c))

/-- What a device starts from: the cells' records, its part of the handshake and of the rounds, its load semaphores, the caches. -/
def start (c : Dev nD) : sProp 𝕄 :=
  iprop((∃ K, records (snt m ρ) K) ∗ levAts L lv ∗ bars (F := F) c ∗ (rnd (F := F) 0 c ∗ rnd (F := F) 1 c ∗ rnd (F := F) 2 c ∗ rnd (F := F) 3 c ∗ rnd (F := F) 4 c ∗ rnd (F := F) 5 c) ∗ ldSems (F := F) c ∗ caches m ρ c)

/-- The six scratch buffers, whatever they hold. -/
def scratches (c : Dev nD) : sProp 𝕄 := iprop((∃ f, wholeAt (F := F) c cc0_scratch0 f) ∗ (∃ f, wholeAt (F := F) c cc0_scratch1 f) ∗ (∃ f, wholeAt (F := F) c cc0_scratch2 f) ∗ (∃ f, wholeAt (F := F) c cc0_scratch3 f) ∗ (∃ f, wholeAt (F := F) c cc0_scratch4 f) ∗ (∃ f, wholeAt (F := F) c cc0_scratch5 f))

def Φ₀ (c : Dev nD) : sProp 𝕄 := iprop(start m ρ c ∗ scratches (F := F) c)
/-- After the body: the scratch buffers, every cell and semaphore at zero, the caches as they were. -/
def Φ₁ (c : Dev nD) : sProp 𝕄 := iprop(scratches (F := F) c ∗ closed (F := F) c ∗ ldSems (F := F) c ∗ semVal (barCell c) 0 ∗ caches m ρ c)

/-- The proof's data for the call. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => qstg m ρ c
    | ⟨2, _⟩ => ostg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m ρ c ∗ (dats m ρ 0 c).owesAt () t0_0.succ
    ∗ stg c cc0_stg0_0 (xstg m ρ c) ∗ stg c cc0_stg1_0 (qstg m ρ c) ∗ stg c cc0_stg2_0 (ostg m ρ c) ∗ stg c cc0_stg3_0 (outAt m ρ c))

/-- The whole body as its three stretches. -/
theorem body_eq : (cc0_body (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 : Prog (TpuEff nD τ sig (Elt F) Λ₀ .tc) PUnit)
    = headProg fun d0 v2 v3 v36 => attnProg d0 v2 v3 v36 fun ⟨v279, v283, v284, v286⟩ => exchProg d0 v2 v279 v283 v284 v286 := by
  rw [cc0_body_eq_skeleton]; rfl

set_option maxHeartbeats 1600000 in
/-- The body, from what a device starts from to what it leaves. -/
theorem sound_body (c : Dev nD) (Kt : PUnit → sProp 𝕄) :
    iprop(bodyPre m ρ c ∗ (bodyPost m ρ c -∗ Kt ⟨⟩)) ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Kt := by
  rw [body_eq]
  unfold bodyPre Φ₀ start scratches
  iintro ⟨⟨⟨⟨⟨%K, #Hrec⟩, #Hlev, Hbar, ⟨Hr0, Hr1, Hr2, Hr3, Hr4, Hr5⟩, Hld, Hc⟩, ⟨%f0, Hs0⟩, ⟨%f1, Hs1⟩, Hs2, Hs3, ⟨%f4, Hs4⟩, Hs5⟩, Ho,
    ⟨%d0, %g0, %hg0, Hx⟩, ⟨%d1, %g1, %hg1, Hq⟩, ⟨%d2, %g2, %hg2, Hw⟩, ⟨%d3, %g3, %hg3, Hout⟩⟩, Hk⟩
  have hx : g0 = xstg m ρ c := by rw [hg0]; unfold Pipeline.Dat.before; rw [if_pos (fetch0_0 t0_0)]; rfl
  have hq : g1 = qstg m ρ c := by rw [hg1]; unfold Pipeline.Dat.before; rw [if_pos (fetch0_1 t0_0)]; rfl
  have hw : g2 = ostg m ρ c := by rw [hg2]; unfold Pipeline.Dat.before; rw [if_pos (fetch0_2 t0_0)]; rfl
  subst hx hq hw
  unfold Pipeline.Dat.owesAt Pipeline.owesWithin
  icases Ho with ⟨%W, %hW, HO⟩
  rw [show (dats m ρ 0 c).owed t0_0.castSucc = O₀ c from rfl]
  unfold caches
  icases Hc with ⟨HK, HV⟩
  ihave HK := (lend kA c (kbuf m ρ c)) $$ HK
  ihave HV := (lend vA c (vbuf m ρ c)) $$ HV
  icases HK with ⟨HK0, HK1, HKr⟩
  icases HV with ⟨HV0, HV1, HVr⟩
  ihave Hs0 := (halves cc0_scratch0 kM c (fun _ => rfl) (halves_disjoint cc0_scratch0 (Or.inl rfl)).1 f0) $$ Hs0
  ihave Hs1 := (halves cc0_scratch1 vM c (fun _ => rfl) (halves_disjoint cc0_scratch1 (Or.inr rfl)).2 f1) $$ Hs1
  icases Hs0 with ⟨Hk0, Hk1, Hkr⟩
  icases Hs1 with ⟨Hv0, Hv1, Hvr⟩
  ihave Hs4 := (slots_split c f4) $$ Hs4
  icases Hs4 with ⟨Hsl, Hslr⟩
  iapply (wp_entry (snt m ρ) K c (xstg m ρ c) (qstg m ρ c) (kbuf m ρ c) (vbuf m ρ c) _) $$ [Hbar Hsl Hk0 Hk1 Hv0 Hv1 HK0 HK1 HV0 HV1 Hld Hx Hq HO]
  · isplitr; · iexact Hrec
    isplitr; · iexact Hlev
    isplitl [Hbar]; · iexact Hbar
    isplitl [Hsl]; · iexact Hsl
    isplitl [Hk0 Hk1]; · isplitl [Hk0] <;> iassumption
    isplitl [Hv0 Hv1]; · isplitl [Hv0] <;> iassumption
    isplitl [HK0 HK1]; · isplitl [HK0] <;> iassumption
    isplitl [HV0 HV1]; · isplitl [HV0] <;> iassumption
    isplitl [Hld]; · iexact Hld
    isplitl [Hx]; · iexact Hx
    isplitl [Hq]; · iexact Hq
    iexists W; iexact HO
  iintro %v2 %v3 ⟨Hpeers, Hfl, Hx, Hq, Hzb, HO⟩
  unfold flights
  icases Hfl with ⟨Hf0, Hf1, Hf2, Hf3⟩
  iapply (wp_attn c v2 v3 _ _ (ostg m ρ c) (kbuf m ρ c) (vbuf m ρ c)) $$ [Hf0 Hf1 Hf2 Hf3 Hs5 Hw Hs2 HO]
  · isplitr; · iexact Hlev
    unfold attnPre
    isplitl [Hf0]; · iexact Hf0
    isplitl [Hf1]; · iexact Hf1
    isplitl [Hf2]; · iexact Hf2
    isplitl [Hf3]; · iexact Hf3
    isplitl [Hs5]; · iexact Hs5
    isplitl [Hw]; · iexact Hw
    isplitl [Hs2]; · iexact Hs2
    iexact HO
  iintro %r Hp
  obtain ⟨v279, v283, v284, v286⟩ := r
  unfold attnPost
  icases Hp with ⟨Hk', Hv, HK, HV, Hld, Hs5, Hw, Hs2, HO⟩
  iapply (wp_exch K c v2 v279 v283 v284 v286 (acc0 m ρ)) $$ [Hs2 Hs3 Hout Hr0 Hr1 Hr2 Hr3 Hr4 Hr5 Hpeers HO]
  · isplitr; · iexact Hrec
    isplitr; · iexact Hlev
    unfold exchPre
    isplitl [Hs2]; · iexact Hs2
    isplitl [Hs3]; · iexact Hs3
    isplitl [Hout]; · iexists _; iexact Hout
    isplitl [Hr0 Hr1 Hr2 Hr3 Hr4 Hr5]
    · isplitl [Hr0]; · iexact Hr0
      isplitl [Hr1]; · iexact Hr1
      isplitl [Hr2]; · iexact Hr2
      isplitl [Hr3]; · iexact Hr3
      isplitl [Hr4]; · iexact Hr4
      iexact Hr5
    isplitl [Hpeers]; · unfold peers; iexact Hpeers
    iexact HO
  unfold exchPost
  iintro ⟨Hs2, Hs3, Hout, Hsl, Hcl, ⟨%W', HO⟩⟩
  iapply Hk
  unfold bodyPost Φ₁ Pipeline.Dat.owesAt Pipeline.owesWithin scratches caches ldSems
  rw [show (dats m ρ 0 c).owed t0_0.succ = 0 from rfl]
  ihave HK := HKr $$ HK
  ihave HV := HVr $$ HV
  ihave Hs0 := Hkr $$ Hk'
  ihave Hs1 := Hvr $$ Hv
  ihave Hs4 := Hslr $$ Hsl
  isplitl [Hs0 Hs1 Hs2 Hs3 Hs4 Hs5 Hcl Hld Hzb HK HV]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hcl]; · iexact Hcl
    isplitl [Hld]; · iexact Hld
    isplitl [Hzb]; · iexact Hzb
    isplitl [HK]; · iexact HK
    iexact HV
  isplitl [HO]
  · iexists W'; isplitr
    · ipureintro; exact fun _ _ => Or.inl trivial
    iexact HO
  isplitl [Hx]; · iexists _; isplitr; · ipureintro; rfl
                  iexact Hx
  isplitl [Hq]; · iexists _; isplitr; · ipureintro; rfl
                  iexact Hq
  isplitl [Hw]; · iexists _; isplitr; · ipureintro; rfl
                  iexact Hw
  iexists _; isplitr; · ipureintro; rfl
  iexact Hout

attribute [local irreducible] outAt acc0

/-- The call's body is the printed one, on its staging buffers. -/
theorem row_eq : (defs₀ (F := F) Proc.tc 0 (t0_0, cfg0.slots t0_0) : Prog (TpuEff nD τ sig (Elt F) Λ₀ .tc) PUnit) = cc0_body (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 := rfl

/-- The library's obligation on the body: at the call's one point, from the invariant before to the invariant after. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  rw [show (dats m ρ 0 c).Φ t0_0.castSucc = Φ₀ m ρ c from rfl, show (dats m ρ 0 c).Φ t0_0.succ = Φ₁ m ρ c from rfl,
    show (dats m ρ 0 c).after 0 t0_0 = xstg m ρ c from rfl, show (dats m ρ 0 c).after 1 t0_0 = qstg m ρ c from rfl,
    show (dats m ρ 0 c).after 2 t0_0 = ostg m ρ c from rfl, show (dats m ρ 0 c).after 3 t0_0 = outAt m ρ c from rfl]
  have h := sound_body m ρ c fun _ => bodyPost m ρ c
  unfold bodyPre bodyPost at h
  iintro H
  rw [row_eq]
  iapply h
  isplitl [H]; · iexact H
  iintro H; iexact H
end Cert.KernelIdealProof
end
-- ==== Proof.KernelIdealLaunch.lean ====
/-
# The launch of the kernel on all devices

From the launched state to what each device starts from — the cells' invariants allocated, the tokens dealt to the partners
that pay with them, the credits — and from what the bodies leave to the statement about the whole run.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel's own sixteen semaphores: the four of its loads, the six it sends on, the six it receives on. -/
abbrev osem : Fin 16 → SemLoc sig := ![.dma (ldK 0), .dma (ldK 1), .dma (ldV 0), .dma (ldV 1), .dma (sendS 0), .dma (sendS 1), .dma (sendS 2), .dma (sendS 3), .dma (sendS 4), .dma (sendS 5), .dma (recvS 0), .dma (recvS 1), .dma (recvS 2), .dma (recvS 3), .dma (recvS 4), .dma (recvS 5)]

theorem ownSemFacts : Pipeline.OwnSemFacts cfg0.spec osem := by decide

theorem share_eq (c : Dev nD) (w : Fin cfg0.W) : (dats m ρ 0 c).share w = fullShare := by unfold Pipeline.Dat.share; split <;> rfl

/-! ## The ghost state minted at launch -/

def cells : Finset (GSem nD τ sig) := Finset.univ.map ⟨kcell, kcell_injective⟩

/-- The duty tokens of a device's own cells: three of its barrier, one of each send and receive cell. -/
abbrev TK : Type := Fin 3 ⊕ (Bool × Fin 6)
abbrev tokOf (cj : Dev nD × TK) : GSem nD τ sig × ℕ × Fin 3 := match cj.2 with
  | .inl d => (barCell cj.1, 0, d)
  | .inr br => (kcell (cj.1, some br), 0, 0)
theorem tokOf_injective : Function.Injective tokOf := by
  rintro ⟨c, j⟩ ⟨c', j'⟩ h
  rcases j with d | br <;> rcases j' with d' | br'
  · have h1 : (c, (none : CK)) = (c', none) := kcell_injective (congrArg Prod.fst h)
    have h2 : d = d' := congrArg (fun x => x.2.2) h
    rw [show c = c' from congrArg Prod.fst h1, h2]
  · have h1 : (c, (none : CK)) = (c', some br') := kcell_injective (congrArg Prod.fst h)
    exact absurd (congrArg Prod.snd h1) (by simp)
  · have h1 : (c, some br) = (c', (none : CK)) := kcell_injective (congrArg Prod.fst h)
    exact absurd (congrArg Prod.snd h1) (by simp)
  · have h1 : (c, some br) = (c', some br') := kcell_injective (congrArg Prod.fst h)
    have h2 : br = br' := Option.some.inj (congrArg Prod.snd h1)
    rw [show c = c' from congrArg Prod.fst h1, h2]
def tokens : Finset (GSem nD τ sig × ℕ × Fin 3) := Finset.univ.map ⟨tokOf, tokOf_injective⟩

def u₀ : UU :=
  (initOf (Pipeline.cells cfgs cellOf_inj) (Pipeline.launchToks cfgs cellOf_inj), (initOf cells tokens, 1))

/-- The duty tokens of device `c`'s own cells. -/
def toks (c : Dev nD) : sProp 𝕄 :=
  iprop((bigSep Finset.univ fun d : Fin 3 => dutyTok ER (barCell c) 0 d) ∗ (bigSep Finset.univ fun r : Fin 6 => dutyTok ER (sendCell c r) 0 0)
    ∗ (bigSep Finset.univ fun r : Fin 6 => dutyTok ER (recvCell c r) 0 0))

/-- The tokens device `c` pays with: its partners' barrier tokens, its own send tokens, its partners' receive tokens. -/
def payToks (c : Dev nD) : sProp 𝕄 :=
  iprop((bigSep Finset.univ fun d : Fin 3 => dutyTok ER (barCell (pr d c)) 0 d) ∗ (bigSep Finset.univ fun r : Fin 6 => dutyTok ER (sendCell c r) 0 0)
    ∗ (bigSep Finset.univ fun r : Fin 6 => dutyTok ER (recvCell (pr (mk r) c) r) 0 0))

/-- What the launch's element deals device `c`. -/
def G (c : Dev nD) : sProp 𝕄 :=
  iprop((bigSep Finset.univ fun k : CK => roundState ER (Rd (snt m ρ)) (kcell (c, k)) 0)
    ∗ (bigSep Finset.univ fun k : CK => iprop(atPos ER (kcell (c, k)) 0 ∅ 0 ∗ reached ER (kcell (c, k)) 0)) ∗ toks (F := F) c)

/-- Device `c`'s positions at its cells. -/
def places (c : Dev nD) : sProp 𝕄 := bigSep Finset.univ fun k : CK => atPos ER (kcell (c, k)) 0 ∅ 0

/-- What the launch's global step makes of it. -/
def G' (c : Dev nD) : sProp 𝕄 := iprop((∃ K, records (snt m ρ) K) ∗ places (F := F) c ∗ payToks (F := F) c ∗ ldSems (F := F) c)

theorem bigSep_ck (Φ : CK → sProp 𝕄) : bigSep Finset.univ Φ = iprop(Φ (none) ∗ Φ (some (false, 0)) ∗ Φ (some (false, 1)) ∗ Φ (some (false, 2)) ∗ Φ (some (false, 3)) ∗ Φ (some (false, 4)) ∗ Φ (some (false, 5)) ∗ Φ (some (true, 0)) ∗ Φ (some (true, 1)) ∗ Φ (some (true, 2)) ∗ Φ (some (true, 3)) ∗ Φ (some (true, 4)) ∗ Φ (some (true, 5))) :=
  bigSep_univ_eq_bigSepL [none, some (false, 0), some (false, 1), some (false, 2), some (false, 3), some (false, 4), some (false, 5), some (true, 0), some (true, 1), some (true, 2), some (true, 3), some (true, 4), some (true, 5)] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep_tk (Φ : TK → sProp 𝕄) : bigSep Finset.univ Φ
    = iprop((bigSep Finset.univ fun d : Fin 3 => Φ (.inl d)) ∗ (bigSep Finset.univ fun r : Fin 6 => Φ (.inr (false, r)))
        ∗ (bigSep Finset.univ fun r : Fin 6 => Φ (.inr (true, r)))) := by
  rw [bigSep_univ_sum, bigSep_univ_prod]
  congr 1
  exact bigSep_univ_eq_bigSepL [false, true] (by decide) (by decide) _

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_tk]; rfl
  iintro HX
  imod (Rounds.fund ER (Rd (snt m ρ)) cells tokens) $$ HX with ⟨Hst, Hr, Hat, Htok⟩
  imodintro
  ihave Hst' := (Entails.of_eq (hX fun g => roundState ER (Rd (snt m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (ldK 0)) 0 ∗ semVal ((c : Thread nD τ), .dma (ldK 1)) 0 ∗ semVal ((c : Thread nD τ), .dma (ldV 0)) 0 ∗ semVal ((c : Thread nD τ), .dma (ldV 1)) 0 ∗ semVal ((c : Thread nD τ), .dma (sendS 0)) 0 ∗ semVal ((c : Thread nD τ), .dma (sendS 1)) 0 ∗ semVal ((c : Thread nD τ), .dma (sendS 2)) 0 ∗ semVal ((c : Thread nD τ), .dma (sendS 3)) 0 ∗ semVal ((c : Thread nD τ), .dma (sendS 4)) 0 ∗ semVal ((c : Thread nD τ), .dma (sendS 5)) 0 ∗ semVal ((c : Thread nD τ), .dma (recvS 0)) 0 ∗ semVal ((c : Thread nD τ), .dma (recvS 1)) 0 ∗ semVal ((c : Thread nD τ), .dma (recvS 2)) 0 ∗ semVal ((c : Thread nD τ), .dma (recvS 3)) 0 ∗ semVal ((c : Thread nD τ), .dma (recvS 4)) 0 ∗ semVal ((c : Thread nD τ), .dma (recvS 5)) 0) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ ldSems (F := F) c) := by
  rw [ownSems0_eq, unscopedSems0_eq, bigSep_ck]
  unfold ldSems
  iintro ⟨⟨ZL0, ZL1, ZL2, ZL3, ZS0, ZS1, ZS2, ZS3, ZS4, ZS5, ZR0, ZR1, ZR2, ZR3, ZR4, ZR5⟩, ZB⟩
  isplitr [ZL0 ZL1 ZL2 ZL3]
  · isplitl [ZB]; · iexact ZB
    isplitl [ZS0]; · iexact ZS0
    isplitl [ZS1]; · iexact ZS1
    isplitl [ZS2]; · iexact ZS2
    isplitl [ZS3]; · iexact ZS3
    isplitl [ZS4]; · iexact ZS4
    isplitl [ZS5]; · iexact ZS5
    isplitl [ZR0]; · iexact ZR0
    isplitl [ZR1]; · iexact ZR1
    isplitl [ZR2]; · iexact ZR2
    isplitl [ZR3]; · iexact ZR3
    isplitl [ZR4]; · iexact ZR4
    iexact ZR5
  isplitl [ZL0]; · iexact ZL0
  isplitl [ZL1]; · iexact ZL1
  isplitl [ZL2]; · iexact ZL2
  iexact ZL3

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (snt m ρ)) κ (kcell (c, k))))
          ∗ (bigSep Finset.univ fun k => iprop(atPos ER (kcell (c, k)) 0 ∅ 0 ∗ reached ER (kcell (c, k)) 0)) ∗ toks (F := F) c ∗ ldSems (F := F) c) := by
  unfold G
  iintro ⟨Hos, Hus, Hst, Hat, Htok⟩
  ihave Hv := (sems0_eq (F := F) c) $$ [Hos Hus]
  · isplitl [Hos] <;> iassumption
  icases Hv with ⟨Hv, Hld⟩
  imod (show iprop((bigSep Finset.univ fun k : CK => semVal (kcell (c, k)) 0) ∗ bigSep Finset.univ fun k : CK => roundState ER (Rd (snt m ρ)) (kcell (c, k)) 0)
      ⊢ (|={Set.univ}=> bigSep Finset.univ fun k => iprop(∃ κ : ℕ, cellInv ER (Rd (snt m ρ)) κ (kcell (c, k))) : sProp 𝕄) from by
        rw [← bigSep_sep']
        exact (bigSep_mono fun k _ => (Rounds.body_intro ER (Rd (snt m ρ)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hld

/-! ## Dealing the tokens -/

/-- Tokens indexed by a device and a kind, dealt to the partner that the kind names. -/
theorem deal {I : Type} [Fintype I] [DecidableEq I] (e : I → Fin 3) (Φ : Dev nD → I → sProp 𝕄) :
    (bigSep Finset.univ fun c : Dev nD => bigSep Finset.univ fun i : I => Φ c i)
      = bigSep Finset.univ fun c : Dev nD => bigSep Finset.univ fun i : I => Φ (pr (e i) c) i := by
  rw [BI.bigSep_univ_comm Φ, BI.bigSep_univ_comm fun c i => Φ (pr (e i) c) i]
  exact bigSep_congr fun i _ => bigSep_univ_equiv (swap (e i)) fun c => Φ c i

theorem toks_around : (bigSep Finset.univ fun c : Dev nD => (toks c : sProp 𝕄)) ⊢ bigSep Finset.univ fun c : Dev nD => payToks c := by
  unfold toks payToks
  rw [bigSep_sep', bigSep_sep', bigSep_sep', bigSep_sep', deal id fun c d => (dutyTok ER (barCell c) 0 d : sProp 𝕄),
    deal mk fun c r => (dutyTok ER (recvCell c r) 0 0 : sProp 𝕄)]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (K : Dev nD × CK → ℕ) (c : Dev nD) :
    iprop(records (snt m ρ) K ∗ (places (F := F) c ∗ payToks (F := F) c ∗ ldSems (F := F) c)) ⊢ G' m ρ c := by
  unfold G'
  iintro ⟨#H, HR⟩
  isplitr; · iexists K; iexact H
  iexact HR

theorem regroup :
    (bigSep Finset.univ fun c : Dev nD => iprop((bigSep Finset.univ fun k => iprop(∃ κ : ℕ, cellInv ER (Rd (snt m ρ)) κ (kcell (c, k))))
          ∗ (bigSep Finset.univ fun k => iprop(atPos ER (kcell (c, k)) 0 ∅ 0 ∗ reached ER (kcell (c, k)) 0)) ∗ toks (F := F) c ∗ ldSems (F := F) c) : sProp 𝕄)
      ⊢ bigSep Finset.univ (G' m ρ) := by
  rw [bigSep_sep', bigSep_sep', bigSep_sep', ← bigSep_univ_prod (fun ck : Dev nD × CK => iprop(∃ κ : ℕ, cellInv ER (Rd (snt m ρ)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hld⟩
  ihave HK := (BI.bigSep_exists_pi Finset.univ (fun (ck : Dev nD × CK) (κ : ℕ) => (cellInv ER (Rd (snt m ρ)) κ (kcell ck) : sProp 𝕄))) $$ HI
  icases HK with ⟨%K, #HI⟩
  ihave Htk := (toks_around (F := F)) $$ Htok
  iapply (bigSep_with_persistent (R := records (snt m ρ) K) fun c _ => share_out m ρ K c)
  isplitr
  · unfold records; isplitl; · iexact HI
    iexact HR
  · rw [bigSep_sep', bigSep_sep']
    isplitl [Hat]; · iexact Hat
    isplitl [Htk]; · iexact Htk
    iexact Hld

/-- The launch's global step, for every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- What one transfer owes a receive cell. -/
theorem tally_recv (d c : Dev nD) (r r' : Fin 6) :
    (tallyAt (recvCell (pr (mk r') d) r') () (N r') : CellTallies nD τ sig Unit) (recvCell c r) () = if r' = r then (if d = pr (mk r) c then N r else 0) else 0 := by
  rw [tallyAt_apply]
  by_cases h : r' = r
  · subst h
    rw [if_pos rfl]
    by_cases h2 : d = pr (mk r') c
    · subst h2; rw [pr_pr, if_pos ⟨rfl, rfl⟩, if_pos rfl]
    · rw [if_neg h2, if_neg]
      rintro ⟨h3, -⟩
      have h4 : (c, (some (true, r') : CK)) = (pr (mk r') d, some (true, r')) := kcell_injective h3
      exact h2 (pr_inj.mp (congrArg Prod.fst h4).symm)
  · rw [if_neg h, if_neg]
    rintro ⟨h3, -⟩
    have h4 : (c, (some (true, r) : CK)) = (pr (mk r') d, some (true, r')) := kcell_injective h3
    exact h (congrArg Prod.snd (Option.some.inj (congrArg Prod.snd h4))).symm

/-- What one entry signal owes a barrier cell. -/
theorem tally_bar (d c : Dev nD) (k : Fin 3) :
    (tallyAt (barCell (pr k d)) () 1 : CellTallies nD τ sig Unit) (barCell c) () = if d = pr k c then 1 else 0 := by
  rw [tallyAt_apply]
  by_cases h2 : d = pr k c
  · subst h2; rw [pr_pr, if_pos ⟨rfl, rfl⟩, if_pos rfl]
  · rw [if_neg h2, if_neg]
    rintro ⟨h3, -⟩
    have h4 : (c, (none : CK)) = (pr k d, none) := kcell_injective h3
    exact h2 (pr_inj.mp (congrArg Prod.fst h4).symm)

theorem bar_ne_recv (c d : Dev nD) (r : Fin 6) : barCell c ≠ recvCell d r := fun h => by
  have h4 : (c, (none : CK)) = (d, some (true, r)) := kcell_injective h
  exact absurd (congrArg Prod.snd h4) (by simp)

theorem owed_recv (d c : Dev nD) (r : Fin 6) : O₀ d (recvCell c r) () = if d = pr (mk r) c then N r else 0 := by
  have h := tally_recv d c r
  unfold O₀ O₁ O₂ O₃ oweR oweR oweR oweR oweR oweR oweR
  simp only [Pi.add_apply, Finsupp.add_apply, Pi.zero_apply, Finsupp.zero_apply, tallyAt_ne_cell (bar_ne_recv _ _ _).symm]
  rw [h 0, h 1, h 2, h 3, h 4, h 5]
  fin_cases r <;> simp

theorem owed_bar (d c : Dev nD) : O₀ d (barCell c) () = (if d = pr 2 c then 1 else 0) + (if d = pr 0 c then 1 else 0) + (if d = pr 1 c then 1 else 0) := by
  unfold O₀ O₁ O₂ O₃ oweR oweR oweR oweR oweR oweR oweR
  simp only [Pi.add_apply, Finsupp.add_apply, Pi.zero_apply, Finsupp.zero_apply, tally_bar, tallyAt_ne_cell (bar_ne_recv _ _ _), Nat.zero_add, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pr 2 c) fun _ => 1, Finset.sum_ite_eq' Finset.univ (pr 0 c) fun _ => 1, Finset.sum_ite_eq' Finset.univ (pr 1 c) fun _ => 1,
    if_pos (Finset.mem_univ _), if_pos (Finset.mem_univ _), if_pos (Finset.mem_univ _)]

theorem launch_recv (c : Dev nD) (r : Fin 6) :
    tallyOn (recvCell c r) (launchCredit (Pipeline.owing O₀) 0 (recvCell c r)) = (tallyAt (recvCell c r) () (N r) : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq' Finset.univ (pr (mk r) c) fun _ => N r,
    if_pos (Finset.mem_univ _)]

theorem recvLoc_injective : Function.Injective fun r : Fin 6 => (SemLoc.dma (recvS r) : SemLoc sig) := fun a b h => by
  have h2 : (some (true, a) : CK) = some (true, b) := csem_injective h
  exact congrArg Prod.snd (Option.some.inj h2)

theorem creds (c : Dev nD) :
    (Pipeline.launchCred O₀ c : sProp 𝕄) ⊢ iprop(cred (tallyAt (barCell c) () 3) ∗ cred (tallyAt (recvCell c 0) () (N 0)) ∗ cred (tallyAt (recvCell c 1) () (N 1)) ∗ cred (tallyAt (recvCell c 2) () (N 2)) ∗ cred (tallyAt (recvCell c 3) () (N 3)) ∗ cred (tallyAt (recvCell c 4) () (N 4)) ∗ cred (tallyAt (recvCell c 5) () (N 5))) := by
  unfold Pipeline.launchCred
  rw [bigSep_univ_at _ (SemLoc.reg barS), launch_bar]
  refine sep_mono_right ?_
  have h1 := bigSep_subset (s := Finset.univ.erase (SemLoc.reg barS)) (t := Finset.univ.map ⟨_, recvLoc_injective⟩) (fun s hs => ?_)
    (Φ := fun sm : SemLoc sig => (cred (tallyOn ((c : Thread nD τ), sm) (launchCredit (Pipeline.owing O₀) 0 ((c : Thread nD τ), sm))) : sProp 𝕄))
  · rw [bigSep_map, bigSep_six] at h1
    rw [← launch_recv c 0, ← launch_recv c 1, ← launch_recv c 2, ← launch_recv c 3, ← launch_recv c 4, ← launch_recv c 5]
    exact h1
  · obtain ⟨r, -, rfl⟩ := Finset.mem_map.mp hs
    refine Finset.mem_erase.mpr ⟨fun h => ?_, Finset.mem_univ _⟩
    have h2 : (some (true, r) : CK) = none := csem_injective h
    exact absurd h2 (by simp)

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' places payToks
  rw [Pipeline.unscopedRestP_none, unscopedRest0_eq, bigSep_ck, bigSep_three, bigSep_six, bigSep_six]
  iintro ⟨⟨H2, H3⟩, Hlev, Hcr, -, HG⟩
  ihave Hc := (creds (F := F) c) $$ Hcr
  icases Hc with ⟨HB, HN⟩
  icases HG with ⟨HK, ⟨HaB, HaS0, HaS1, HaS2, HaS3, HaS4, HaS5, HaR0, HaR1, HaR2, HaR3, HaR4, HaR5⟩, ⟨⟨Ht0, Ht1, Ht2⟩, ⟨HtS0, HtS1, HtS2, HtS3, HtS4, HtS5⟩, ⟨HtR0, HtR1, HtR2, HtR3, HtR4, HtR5⟩⟩, Hld⟩
  icases HN with ⟨Hc0, Hc1, Hc2, Hc3, Hc4, Hc5⟩
  imodintro
  unfold start bars caches rnd
  isplitl
  · isplitl [HK]; · iexact HK
    isplitl [Hlev]; · iexact Hlev
    isplitl [HaB Ht0 Ht1 Ht2 HB]
    · isplitl [HaB]; · iexact HaB
      isplitl [Ht0 Ht1 Ht2]
      · isplitl [Ht0]; · iexact Ht0
        isplitl [Ht1] <;> iassumption
      iexact HB
    isplitl [HtS0 HtR0 HaS0 HaR0 Hc0 HtS1 HtR1 HaS1 HaR1 Hc1 HtS2 HtR2 HaS2 HaR2 Hc2 HtS3 HtR3 HaS3 HaR3 Hc3 HtS4 HtR4 HaS4 HaR4 Hc4 HtS5 HtR5 HaS5 HaR5 Hc5]
    · skip
      isplitl [HtS0 HtR0 HaS0 HaR0 Hc0]
      · isplitl [HtS0]; · iexact HtS0
        isplitl [HtR0]; · iexact HtR0
        isplitl [HaS0]; · iexact HaS0
        isplitl [HaR0]; · iexact HaR0
        iexact Hc0
      isplitl [HtS1 HtR1 HaS1 HaR1 Hc1]
      · isplitl [HtS1]; · iexact HtS1
        isplitl [HtR1]; · iexact HtR1
        isplitl [HaS1]; · iexact HaS1
        isplitl [HaR1]; · iexact HaR1
        iexact Hc1
      isplitl [HtS2 HtR2 HaS2 HaR2 Hc2]
      · isplitl [HtS2]; · iexact HtS2
        isplitl [HtR2]; · iexact HtR2
        isplitl [HaS2]; · iexact HaS2
        isplitl [HaR2]; · iexact HaR2
        iexact Hc2
      isplitl [HtS3 HtR3 HaS3 HaR3 Hc3]
      · isplitl [HtS3]; · iexact HtS3
        isplitl [HtR3]; · iexact HtR3
        isplitl [HaS3]; · iexact HaS3
        isplitl [HaR3]; · iexact HaR3
        iexact Hc3
      isplitl [HtS4 HtR4 HaS4 HaR4 Hc4]
      · isplitl [HtS4]; · iexact HtS4
        isplitl [HtR4]; · iexact HtR4
        isplitl [HaS4]; · iexact HaS4
        isplitl [HaR4]; · iexact HaR4
        iexact Hc4
      isplitl [HtS5]; · iexact HtS5
      isplitl [HtR5]; · iexact HtR5
      isplitl [HaS5]; · iexact HaS5
      isplitl [HaR5]; · iexact HaR5
      iexact Hc5
    isplitl [Hld]; · iexact Hld
    isplitl [H2]; · iexact H2
    iexact H3
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop((unscopedSems0 c ∗ caches m ρ c) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ closed ldSems scratches
  iintro ⟨Hr, ⟨⟨ZS0, ZS1, ZS2, ZS3, ZS4, ZS5⟩, ⟨ZR0, ZR1, ZR2, ZR3, ZR4, ZR5⟩⟩, ⟨ZL0, ZL1, ZL2, ZL3⟩, ZB, Hc⟩
  isplitl [ZB Hc]
  · isplitl [ZB] <;> iassumption
  isplitl [ZL0 ZL1 ZL2 ZL3 ZS0 ZS1 ZS2 ZS3 ZS4 ZS5 ZR0 ZR1 ZR2 ZR3 ZR4 ZR5]
  · skip
    isplitl [ZL0]; · iexact ZL0
    isplitl [ZL1]; · iexact ZL1
    isplitl [ZL2]; · iexact ZL2
    isplitl [ZL3]; · iexact ZL3
    isplitl [ZS0]; · iexact ZS0
    isplitl [ZS1]; · iexact ZS1
    isplitl [ZS2]; · iexact ZS2
    isplitl [ZS3]; · iexact ZS3
    isplitl [ZS4]; · iexact ZS4
    isplitl [ZS5]; · iexact ZS5
    isplitl [ZR0]; · iexact ZR0
    isplitl [ZR1]; · iexact ZR1
    isplitl [ZR2]; · iexact ZR2
    isplitl [ZR3]; · iexact ZR3
    isplitl [ZR4]; · iexact ZR4
    iexact ZR5
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_zero c _ (by fin_cases w <;> fin_cases s <;> decide) _ (by
      rcases t with ⟨_ | _, ht⟩
      · exact Or.inl rfl
      · exact Or.inr rfl)

/-! ## The run -/

/-- An array of a window after the run. -/
def finalA (c : Dev nD) (w : Fin cfg0.W) : Buf (Elt F) ((cfg0.win w).arr.view.loc (c : Thread nD τ)) := (dats m ρ 0 c).arrAt w cfg0.N

/-- What is known of a final state: the windows' arrays, and the two caches. -/
def QC : PUnit × MemSt nD τ sig (Elt F) → Prop := fun r =>
  (∀ c : Dev nD, ∀ w : Fin cfg0.W, r.2.mem ((cfg0.win w).arr.view.loc (c : Thread nD τ)) = finalA m ρ c w)
    ∧ ∀ c : Dev nD, r.2.mem ((c : Thread nD τ).loc main_arg2) = kbuf m ρ c ∧ r.2.mem ((c : Thread nD τ).loc main_arg3) = vbuf m ρ c

/-- What the barrier's cell and the caches say of a state. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = kbuf m ρ c ∧ s.mem ((c : Thread nD τ).loc main_arg3) = vbuf m ρ c

theorem read_out (c : Dev nD) (s' : Phys nD τ sig (Elt F)) :
    (iprop((unscopedSems0 c ∗ caches m ρ c) ∗ emp ∗ SI s') : sProp 𝕄) ⊢ |={Set.univ}=> iprop(⌜QY m ρ c s'.mem⌝ ∗ SI s') := by
  have h2 : (iprop(SI s' ∗ wholeAt c main_arg2 (kbuf m ρ c)) : sProp 𝕄) ⊢ ⌜s'.mem.mem ((c : Thread nD τ).loc main_arg2) = kbuf m ρ c⌝ :=
    (SI_pointsTo_agree).trans (Laws.pure_mono fun h => funext fun i => h i (Finset.mem_univ i))
  have h3 : (iprop(SI s' ∗ wholeAt c main_arg3 (vbuf m ρ c)) : sProp 𝕄) ⊢ ⌜s'.mem.mem ((c : Thread nD τ).loc main_arg3) = vbuf m ρ c⌝ :=
    (SI_pointsTo_agree).trans (Laws.pure_mono fun h => funext fun i => h i (Finset.mem_univ i))
  unfold caches
  iintro ⟨⟨Hu, H2, H3⟩, -, HSI⟩
  ihave %e2 := h2 $$ [HSI H2]
  · isplitl [HSI] <;> iassumption
  ihave %e3 := h3 $$ [HSI H3]
  · isplitl [HSI] <;> iassumption
  imod (Pipeline.unscopedSems0_read (X := unscopedSems0 c) (c := c) fupd_intro s') $$ [Hu HSI] with ⟨%h1, HSI⟩
  · isplitl [Hu] <;> iassumption
  imodintro
  isplitr; · ipureintro; exact ⟨h1, e2, e3⟩
  iexact HSI

set_option maxRecDepth 8000 in
/-- From any memory with zero counters every fair run of `@main` on the eight devices ends, with each window's array at the
    stated contents, the caches as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ caches m ρ c)) (Z := fun _ => iprop(emp))
    (hX := start_intro m ρ) (hin := phi0_intro m ρ) (hout := phi1_exit m ρ)
    (QY := QY m ρ) (hY := read_out m ρ)
    (hQ := fun _ h hs => ⟨⟨fun c w => (h c).1 w, fun c => (h c).2.2.2⟩, sem_eq_zero hs fun c => (h c).2.2.1⟩)

/-- Every argument array ends as it was. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 c (0 : Fin 4)).trans ((dats (F := F) m ρ 0 c).arrAt_in (0 : Fin 4) rfl _), (h.1 c (1 : Fin 4)).trans ((dats (F := F) m ρ 0 c).arrAt_in (1 : Fin 4) rfl _),
    (h.2 c).1, (h.2 c).2, (h.1 c (2 : Fin 4)).trans ((dats (F := F) m ρ 0 c).arrAt_in (2 : Fin 4) rfl _)⟩

attribute [local irreducible] outAt acc0 in
/-- The result array ends at what the body left in the last window. -/
theorem finalA_out (c : Dev nD) : finalA m ρ c (3 : Fin 4) = outAt m ρ c := by
  have hz : (fun a => (win0_3.index t0_0) a * main_v1.ty.shape.size a) = fun _ => 0 := funext fun a => by fin_cases a <;> decide
  have ho : (win0_3.blk t0_0).view.read (Elt F) (finalA m ρ c (3 : Fin 4)) = outAt m ρ c := by
    unfold finalA
    rw [show cfg0.N = ((t0_0 : Fin cfg0.N)).val + 1 from rfl, (dats m ρ 0 c).arrAt_succ (3 : Fin 4) t0_0]
    rw [flush0_3 t0_0, if_pos rfl]
    exact View.read_write_univ _ _
  exact (Memref.read_access_unit_zero (Elt F) main_v1 hz (fun a => by fin_cases a <;> decide) _).symm.trans ho

/-- The three staged arguments are the arrays whole. -/
theorem xstg_eq (c : Dev nD) : xstg m ρ c = m ((c.tc : Thread nD τ).loc main_arg0) :=
  Memref.read_access_unit_zero (Elt F) main_arg0 (funext fun a => by fin_cases a <;> decide) (fun a => by fin_cases a <;> decide) _
theorem qstg_eq (c : Dev nD) : qstg m ρ c = m ((c.tc : Thread nD τ).loc main_arg1) :=
  Memref.read_access_unit_zero (Elt F) main_arg1 (funext fun a => by fin_cases a <;> decide) (fun a => by fin_cases a <;> decide) _
theorem ostg_eq (c : Dev nD) : ostg m ρ c = m ((c.tc : Thread nD τ).loc main_arg4) :=
  Memref.read_access_unit_zero (Elt F) main_arg4 (funext fun a => by fin_cases a <;> decide) (fun a => by fin_cases a <;> decide) _

end Cert.KernelIdealProof

end
-- ==== Proof.Frames.lean ====
/-
# The frames

Each program runs to its end without fault from any launched state, its argument arrays end as they began, and every
semaphore ends at zero.
-/
module

public import proofs.«01_k».proof.Defs
public import proofs.«01_k».proof.Proof.KernelLaunch
public import proofs.«01_k».proof.Proof.KernelIdealLaunch
public import proofs.«01_k».proof.Proof.Gen.ReferenceIdeal.Run

@[expose] public section

noncomputable section

namespace Cert.Frames

open Idealize.ShloMosaic Idealize.ShloMosaic.TcCoe Idealize.SL.Sem

/-- The kernel at its own formats keeps its frame. -/
theorem kernel : Cert.quiescent_Kernel := by
  intro m ρ _
  exact (θ_run Cert.Kernel.defs _ _).mono (fun _ h => ⟨fun c => Cert.KernelProof.args_kept m ρ h.1 c, h.2⟩)
    (Cert.KernelProof.run_main (F := Bits) m ρ)

/-- The idealized kernel keeps its frame. -/
theorem kernelIdeal : Cert.quiescent_KernelIdeal := by
  intro m ρ _
  exact (θ_run Cert.KernelIdeal.defs _ _).mono (fun _ h => ⟨fun c => Cert.KernelIdealProof.args_kept m ρ h.1 c, h.2⟩)
    (Cert.KernelIdealProof.run_main (F := Ideal) m ρ)

/-- The reference keeps its frame: it uses no semaphore at all. -/
theorem referenceIdeal : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Frames

end
-- ==== Proof.OnlineSoftmax.lean ====
/-
# The online softmax over the extended reals

A softmax that runs over its scores block by block, rescaling what it has by the exponential of the change of the running
maximum, ends with the sums of the softmax taken at once. This holds for all extended reals.
-/
module

public import Idealize.ShloMosaic.PureOps.Ideal.Laws
public import Idealize.ShloMosaic.Lib.Pointwise

@[expose] public section

noncomputable section

namespace Cert.OnlineSoftmax

open Idealize.ShloMosaic

/-- An exponential is not negative. -/
theorem exp_nonneg (x : EReal) : 0 ≤ Ideal.exp x := by
  induction x with
  | bot => exact le_of_eq Ideal.exp_bot.symm
  | top => exact le_top
  | coe r => rw [Ideal.exp_coe]; exact EReal.coe_nonneg.mpr (Real.exp_pos r).le

/-- The exponential of a number's distance below another is finite. -/
theorem exp_sub_ne_top {a b : EReal} (h : a ≤ b) : Ideal.exp (a - b) ≠ ⊤ := by
  induction a with
  | bot => rw [EReal.bot_sub]; simp
  | top =>
    rw [top_le_iff] at h
    subst h
    rw [sub_eq_add_neg, EReal.neg_top, EReal.add_bot]
    simp
  | coe r =>
    induction b with
    | bot => exact absurd h (not_le.mpr (EReal.bot_lt_coe r))
    | top => rw [sub_eq_add_neg, EReal.neg_top, EReal.add_bot]; simp
    | coe t => rw [← EReal.coe_sub, Ideal.exp_coe]; exact EReal.coe_ne_top _

/-- Rescaling a weight from one maximum to a larger one. -/
theorem exp_rescale {s a b : EReal} (h : s ≤ a) (h' : a ≤ b) : Ideal.exp (s - a) * Ideal.exp (a - b) = Ideal.exp (s - b) := by
  induction b with
  | top => simp only [sub_eq_add_neg, EReal.neg_top, EReal.add_bot, Ideal.exp_bot, mul_zero]
  | bot =>
    obtain rfl := le_bot_iff.mp h'
    obtain rfl := le_bot_iff.mp h
    simp only [EReal.bot_sub, Ideal.exp_bot, mul_zero]
  | coe t =>
    induction a with
    | top => exact absurd h' (not_le.mpr (EReal.coe_lt_top t))
    | bot =>
      obtain rfl := le_bot_iff.mp h
      simp only [EReal.bot_sub, Ideal.exp_bot, mul_zero]
    | coe r =>
      induction s with
      | top => exact absurd h (not_le.mpr (EReal.coe_lt_top r))
      | bot => simp only [EReal.bot_sub, Ideal.exp_bot, zero_mul]
      | coe q =>
        rw [← EReal.coe_sub, ← EReal.coe_sub, ← EReal.coe_sub, Ideal.exp_coe, Ideal.exp_coe, Ideal.exp_coe, ← EReal.coe_mul,
          ← Real.exp_add]
        congr 2
        ring

/-- A finite nonnegative factor goes into a sum, from the right. -/
theorem sum_mul_right {ι : Type*} (S : Finset ι) (f : ι → EReal) {x : EReal} (h : 0 ≤ x) (h' : x ≠ ⊤) :
    (∑ i ∈ S, f i) * x = ∑ i ∈ S, f i * x := by
  classical
  induction S using Finset.induction_on with
  | empty => simp
  | insert a S ha ih => rw [Finset.sum_insert ha, Finset.sum_insert ha, EReal.right_distrib_of_nonneg_of_ne_top h h', ih]

/-- The maximum of the first scores. -/
def mx (s : ℕ → EReal) (n : ℕ) : EReal := (Finset.range n).sup s
/-- The weighted sum of the first exponentials, each taken below `M`. -/
def ws (w s : ℕ → EReal) (n : ℕ) (M : EReal) : EReal := ∑ j ∈ Finset.range n, w j * Ideal.exp (s j - M)

/-- The maximum after one more block. -/
theorem mx_add (s : ℕ → EReal) (n k : ℕ) : max (mx s n) ((Finset.range k).sup fun j => s (n + j)) = mx s (n + k) := by
  induction k with
  | zero => simp [mx]
  | succ k ih =>
    have e : mx s (n + (k + 1)) = max (s (n + k)) (mx s (n + k)) := by
      unfold mx
      rw [← add_assoc, Finset.range_add_one, Finset.sup_insert]
    rw [e, ← ih, Finset.range_add_one, Finset.sup_insert]
    exact max_left_comm _ _ _

/-- The weighted sum after one more block: what there was, rescaled, and the block's own. -/
theorem ws_add (w s : ℕ → EReal) (n k : ℕ) :
    ws w s n (mx s n) * Ideal.exp (mx s n - mx s (n + k)) + (∑ j ∈ Finset.range k, w (n + j) * Ideal.exp (s (n + j) - mx s (n + k)))
      = ws w s (n + k) (mx s (n + k)) := by
  have hle : mx s n ≤ mx s (n + k) := by rw [← mx_add]; exact le_max_left _ _
  unfold ws
  rw [sum_mul_right _ _ (exp_nonneg _) (exp_sub_ne_top hle), Finset.sum_range_add]
  congr 1
  refine Finset.sum_congr rfl fun j hj => ?_
  rw [mul_assoc, exp_rescale (a := mx s n) (Finset.le_sup (f := s) hj) hle]

/-- One output of the softmax over 4096 keys: the weighted sum over the sum, each below the greatest score. -/
def attn (w s : ℕ → EReal) : EReal := Ideal.div (ws w s 4096 (mx s 4096)) (ws (fun _ => 1) s 4096 (mx s 4096))

/-- The supremum over the first indices, as bounded numbers. -/
theorem sup_range {n : ℕ} (s : ℕ → EReal) : (Finset.range n).sup s = Finset.univ.sup fun j : Fin n => s j.val :=
  le_antisymm (Finset.sup_le fun j hj => Finset.le_sup (f := fun j : Fin n => s j.val) (Finset.mem_univ ⟨j, Finset.mem_range.mp hj⟩))
    (Finset.sup_le fun j _ => Finset.le_sup (f := s) (Finset.mem_range.mpr j.isLt))

/-- An array of 4096 numbers as a function of all indices. -/
def ext (f : Fin 4096 → EReal) (n : ℕ) : EReal := if h : n < 4096 then f ⟨n, h⟩ else 0
theorem ext_of_lt (f : Fin 4096 → EReal) {n : ℕ} (h : n < 4096) : ext f n = f ⟨n, h⟩ := dif_pos h
theorem ext_val (f : Fin 4096 → EReal) (j : Fin 4096) : ext f j.val = f j := ext_of_lt f j.isLt

/-- The softmax taken at once, over arrays. -/
theorem attn_ext (w s : Fin 4096 → EReal) :
    attn (ext w) (ext s) = Ideal.div (∑ j, Ideal.exp (s j - Finset.univ.sup s) * w j) (∑ j, Ideal.exp (s j - Finset.univ.sup s)) := by
  have hm : mx (ext s) 4096 = Finset.univ.sup s := (sup_range _).trans (Finset.sup_congr rfl fun j _ => ext_val s j)
  unfold attn ws
  rw [hm, Finset.sum_range, Finset.sum_range]
  simp only [ext_val, one_mul]
  exact congrArg (Ideal.div · _) (Finset.sum_congr rfl fun j _ => mul_comm _ _)

end Cert.OnlineSoftmax

end
-- ==== Proof.RefModel.lean ====
/-
# The reference, step by step

The reference's result named by the steps of its loop over the key blocks, and each step read at an index.
-/
module

public import proofs.«01_k».proof.Proof.OnlineSoftmax
public import proofs.«01_k».proof.Proof.Gen.ReferenceIdeal.Run

@[expose] public section

noncomputable section

namespace Cert.RefModel

open Cert.ReferenceIdeal
open Idealize.ShloMosaic Idealize.ShloMosaic.TcCoe
open Facts₀ Facts Cert.OnlineSoftmax

/-- One number per row, a score per row and key of a block, an output. -/
abbrev Col := FVec Ideal S1x64x256x1 .f32
abbrev Scr := FVec Ideal S1x64x256x1024 .f32
abbrev Out := FVec Ideal S1x256x64x128 .f32

/-- The scale, as the program's literal reads. -/
def scale : EReal := Ideal.ofBits .f32 0x3DB504F3#32

/-- The query product. -/
def proj (x : FVec Ideal S1x256x1024 .f32) (wq : FVec Ideal S1024x8192 .f32) : Out :=
  shapeCast S1x256x64x128 (Host.dotGeneral dot_S1x256x1024_S1024x8192_S1x256x8192_2_0_01_1_n_n none x wq) shapeCasts_S1x256x8192_S1x256x64x128
/-- The scores against the block of keys from `o` on. -/
def scr (q : Out) (k : FVec Ideal S1x4096x64x128 .f32) (o : Fin 4 → ℕ) (h : S1x4096x64x128.Slices o S1x1024x64x128) : Scr :=
  mulf (Host.dotGeneral dot_S1x256x64x128_S1x1024x64x128_S1x64x256x1024_3_3_1_1_02_02 none q (extractStridedSlice S1x1024x64x128 o k h))
    (broadcastInDim S1x64x256x1024 ![] bcast_S_S1x64x256x1024 (constant S_ .f32 0x3DB504F3#32))
/-- The running maximum after a block. -/
def mNext (m : Col) (s : Scr) : Col :=
  maximumf m (broadcastInDim S1x64x256x1 ![0, 1, 2] bcast_S1x64x256_S1x64x256x1_0_1_2
    (Host.reduce FloatOps.maximumf s (constant S_ .f32 0xFF800000#32) reducesTo_S1x64x256x1024_S1x64x256_d3 h_S_))
/-- The rescaling factor. -/
def alp (m m' : Col) : Col := Host.exp (subf m m')
/-- The block's exponentials. -/
def prb (s : Scr) (m' : Col) : Scr := Host.exp (subf s (broadcastInDim S1x64x256x1024 ![0, 1, 2, 3] bcast_S1x64x256x1_S1x64x256x1024_0_1_2_3 m'))
/-- The running sum after a block. -/
def lNext (l a : Col) (p : Scr) : Col :=
  addf (mulf l a) (broadcastInDim S1x64x256x1 ![0, 1, 2] bcast_S1x64x256_S1x64x256x1_0_1_2
    (Host.reduceAdd p (constant S_ .f32 0x00000000#32) reducesTo_S1x64x256x1024_S1x64x256_d3 h_S_))
/-- A number per row spread over the outputs. -/
def spread (a : Col) : Out :=
  broadcastInDim S1x256x64x128 ![0, 1, 2, 3] bcast_S1x256x64x1_S1x256x64x128_0_1_2_3 (transpose S1x256x64x1 [0, 2, 1, 3] a transposes_S1x64x256x1_S1x256x64x1_0_2_1_3)
/-- The running output after a block. -/
def oNext (out : Out) (a : Col) (p : Scr) (v : FVec Ideal S1x4096x64x128 .f32) (o : Fin 4 → ℕ) (h : S1x4096x64x128.Slices o S1x1024x64x128) : Out :=
  addf (mulf out (spread a)) (transpose S1x256x64x128 [0, 3, 1, 2]
    (Host.dotGeneral dot_S1x1024x64x128_S1x64x256x1024_S1x64x128x256_1_3_3_2_02_01 none (extractStridedSlice S1x1024x64x128 o v h) p)
    transposes_S1x64x128x256_S1x256x64x128_0_3_1_2)

theorem drop3 : S1x64x256x1024.Reduces [3] S1x64x256 := by decide

theorem lift3 (H : Fin 64) (r : Fin 256) (j : Fin 1024) : drop3.lift (ix3 (0 : Fin 1) H r) j = ix4 (0 : Fin 1) H r j := by
  funext a
  fin_cases a <;> rfl

/-- A fold of the maximum from the least number is the supremum. -/
theorem fold_max {n : ℕ} (f : Fin n → EReal) (b : EReal) (hb : b = ⊥) :
    Finset.univ.fold (FloatOps.maximumf (F := Ideal) (φ := .f32)) b f = Finset.univ.sup f := by
  subst hb
  rfl

theorem ofBits_negInf : Ideal.ofBits .f32 0xFF800000#32 = ⊥ := by
  simp [Ideal.ofBits, Ideal.ieee]

/-- A number per row as a column. -/
theorem col_apply (R : FVec Ideal S1x64x256 .f32) (H : Fin 64) (r : Fin 256) :
    broadcastInDim S1x64x256x1 ![0, 1, 2] bcast_S1x64x256_S1x64x256x1_0_1_2 R (ix4 0 H r 0) = R (ix3 0 H r) := by
  pointwise

/-- A row's maximum after a block: what it was, against the block's scores. -/
theorem mNext_apply (m : Col) (s : Scr) (H : Fin 64) (r : Fin 256) :
    mNext m s (ix4 0 H r 0) = max (m (ix4 0 H r 0)) (Finset.univ.sup fun j : Fin 1024 => s (ix4 0 H r j)) := by
  refine congrArg (max (m (ix4 0 H r 0))) ((col_apply _ H r).trans ?_)
  refine ((Host.reduce_eq_fold_single _ _ _ _ drop3 _ _).trans (fold_max (n := 1024) (fun j => s (drop3.lift (ix3 (0 : Fin 1) H r) j)) _ ofBits_negInf)).trans ?_
  exact Finset.sup_congr rfl fun j _ => congrArg s (lift3 H r j)

/-- A row's sum after a block: what it was, rescaled, and the block's exponentials. -/
theorem lNext_apply (l a : Col) (p : Scr) (H : Fin 64) (r : Fin 256) :
    lNext l a p (ix4 0 H r 0) = l (ix4 0 H r 0) * a (ix4 0 H r 0) + ∑ j : Fin 1024, p (ix4 0 H r j) := by
  refine congrArg (l (ix4 0 H r 0) * a (ix4 0 H r 0) + ·) ((col_apply _ H r).trans ?_)
  refine (Ideal.hostReduceAdd_single _ drop3 p _ _).trans ?_
  rw [show (constant (F := Ideal) S_ .f32 0x00000000#32) (Shape.Idx.first h_S_) = 0 from Ideal.ofBits_zero_f32, zero_add]
  exact Finset.sum_congr rfl fun j _ => congrArg p (lift3 H r j)

theorem alp_apply (m m' : Col) (i) : alp m m' i = Ideal.exp (m i - m' i) := rfl

theorem spread_apply (a : Col) (H : Fin 64) (r : Fin 256) (d : Fin 128) : spread a (ix4 0 r H d) = a (ix4 0 H r 0) := by
  unfold spread
  pointwise

theorem prb_apply (s : Scr) (m' : Col) (H : Fin 64) (r : Fin 256) (j : Fin 1024) :
    prb s m' (ix4 0 H r j) = Ideal.exp (s (ix4 0 H r j) - m' (ix4 0 H r 0)) := by
  unfold prb
  pointwise

/-- The scores of a row against every key, and a column of the values. -/
def row (q : Out) (k : FVec Ideal S1x4096x64x128 .f32) (H : Fin 64) (r : Fin 256) (j : Fin 4096) : EReal :=
  (∑ d : Fin 128, q (ix4 0 r H d) * k (ix4 0 j H d)) * scale
def val (v : FVec Ideal S1x4096x64x128 .f32) (H : Fin 64) (d : Fin 128) (j : Fin 4096) : EReal := v (ix4 0 j H d)

theorem blk_lt {n : ℕ} (h : S1x4096x64x128.Slices ![0, n, 0, 0] S1x1024x64x128) (j : Fin 1024) : n + j.val < 4096 := by
  have h1 : n + 1024 ≤ 4096 := h.2 (1 : Fin 4)
  have h2 := j.isLt
  omega

theorem scr_apply (q : Out) (k : FVec Ideal S1x4096x64x128 .f32) (n : ℕ) (h : S1x4096x64x128.Slices ![0, n, 0, 0] S1x1024x64x128)
    (H : Fin 64) (r : Fin 256) (j : Fin 1024) : scr q k ![0, n, 0, 0] h (ix4 0 H r j) = ext (row q k H r) (n + j.val) := by
  rw [ext_of_lt _ (blk_lt h j)]
  unfold scr row scale
  pointwise

theorem oNext_apply (out : Out) (a : Col) (p : Scr) (v : FVec Ideal S1x4096x64x128 .f32) (n : ℕ)
    (h : S1x4096x64x128.Slices ![0, n, 0, 0] S1x1024x64x128) (H : Fin 64) (r : Fin 256) (d : Fin 128) :
    oNext out a p v ![0, n, 0, 0] h (ix4 0 r H d)
      = out (ix4 0 r H d) * a (ix4 0 H r 0) + ∑ j : Fin 1024, ext (val v H d) (n + j.val) * p (ix4 0 H r j) := by
  simp only [ext_of_lt _ (blk_lt h _)]
  rw [← spread_apply a H r d]
  unfold oNext val
  pointwise

theorem proj_apply (x : FVec Ideal S1x256x1024 .f32) (wq : FVec Ideal S1024x8192 .f32) (H : Fin 64) (r : Fin 256) (d : Fin 128) :
    proj x wq (ix4 0 r H d) = ∑ t : Fin 1024, x (ix3 0 r t) * wq (ix2 t ⟨H.val * 128 + d.val, by omega⟩) := by
  unfold proj
  pointwise

/-- What the loop carries: the running maximum, the running sum and the running output. -/
structure St where
  m : Col
  l : Col
  o : Out

/-- One trip of the loop. -/
def next (q : Out) (k v : FVec Ideal S1x4096x64x128 .f32) (o : Fin 4 → ℕ) (h : S1x4096x64x128.Slices o S1x1024x64x128) (z : St) : St where
  m := mNext z.m (scr q k o h)
  l := lNext z.l (alp z.m (mNext z.m (scr q k o h))) (prb (scr q k o h) (mNext z.m (scr q k o h)))
  o := oNext z.o (alp z.m (mNext z.m (scr q k o h))) (prb (scr q k o h) (mNext z.m (scr q k o h))) v o h

/-- What the loop starts from. -/
def start : St where
  m := broadcastInDim S1x64x256x1 ![] bcast_S_S1x64x256x1 (constant S_ .f32 0xFF800000#32)
  l := broadcastInDim S1x64x256x1 ![] bcast_S_S1x64x256x1 (constant S_ .f32 0x00000000#32)
  o := broadcastInDim S1x256x64x128 ![] bcast_S_S1x256x64x128 (constant S_ .f32 0x00000000#32)

/-- The loop has gone over the first `n` keys. -/
structure Upto (q : Out) (k v : FVec Ideal S1x4096x64x128 .f32) (n : ℕ) (z : St) : Prop where
  m : ∀ H r, z.m (ix4 0 H r 0) = mx (ext (row q k H r)) n
  l : ∀ H r, z.l (ix4 0 H r 0) = ws (fun _ => 1) (ext (row q k H r)) n (mx (ext (row q k H r)) n)
  o : ∀ H r d, z.o (ix4 0 r H d) = ws (ext (val v H d)) (ext (row q k H r)) n (mx (ext (row q k H r)) n)

theorem upto_start (q : Out) (k v : FVec Ideal S1x4096x64x128 .f32) : Upto q k v 0 start where
  m _ _ := ofBits_negInf
  l _ _ := Ideal.ofBits_zero_f32
  o _ _ _ := Ideal.ofBits_zero_f32

theorem upto_next (q : Out) (k v : FVec Ideal S1x4096x64x128 .f32) (n : ℕ) (h : S1x4096x64x128.Slices ![0, n, 0, 0] S1x1024x64x128) (z : St)
    (hz : Upto q k v n z) : Upto q k v (n + 1024) (next q k v ![0, n, 0, 0] h z) := by
  have hm : ∀ H r, mNext z.m (scr q k ![0, n, 0, 0] h) (ix4 0 H r 0) = mx (ext (row q k H r)) (n + 1024) := fun H r => by
    rw [mNext_apply, hz.m H r, ← mx_add, sup_range]
    exact congrArg (max _) (Finset.sup_congr rfl fun j _ => scr_apply q k n h H r j)
  have hp : ∀ H r j, prb (scr q k ![0, n, 0, 0] h) (mNext z.m (scr q k ![0, n, 0, 0] h)) (ix4 0 H r j)
      = Ideal.exp (ext (row q k H r) (n + j.val) - mx (ext (row q k H r)) (n + 1024)) := fun H r j => by
    rw [prb_apply, hm, scr_apply]
  refine ⟨hm, fun H r => ?_, fun H r d => ?_⟩
  · refine (lNext_apply _ _ _ H r).trans ?_
    rw [alp_apply, hm, hz.m, hz.l, ← ws_add, Finset.sum_range]
    simp only [hp, one_mul]
  · refine (oNext_apply _ _ _ v n h H r d).trans ?_
    rw [alp_apply, hm, hz.m, hz.o, ← ws_add, Finset.sum_range]
    simp only [hp]

/-- The attention of the reference, all four blocks. -/
def att (q : Out) (k v : FVec Ideal S1x4096x64x128 .f32) : Out :=
  let z := next q k v ![0, 3072, 0, 0] slices_S1x4096x64x128_S1x1024x64x128_0_3072_0_0
    (next q k v ![0, 2048, 0, 0] slices_S1x4096x64x128_S1x1024x64x128_0_2048_0_0
      (next q k v ![0, 1024, 0, 0] slices_S1x4096x64x128_S1x1024x64x128_0_1024_0_0
        (next q k v ![0, 0, 0, 0] slices_S1x4096x64x128_S1x1024x64x128_0_0_0_0 start)))
  Host.divf z.o (spread z.l)

/-- The attention of the reference, at an index: the softmax over all 4096 keys. -/
theorem att_apply (q : Out) (k v : FVec Ideal S1x4096x64x128 .f32) (H : Fin 64) (r : Fin 256) (d : Fin 128) :
    att q k v (ix4 0 r H d) = attn (ext (val v H d)) (ext (row q k H r)) := by
  have hz := upto_next q k v 3072 slices_S1x4096x64x128_S1x1024x64x128_0_3072_0_0 _
    (upto_next q k v 2048 slices_S1x4096x64x128_S1x1024x64x128_0_2048_0_0 _
      (upto_next q k v 1024 slices_S1x4096x64x128_S1x1024x64x128_0_1024_0_0 _
        (upto_next q k v 0 slices_S1x4096x64x128_S1x1024x64x128_0_0_0_0 _ (upto_start q k v))))
  unfold att attn
  refine (show _ = Ideal.div _ _ from rfl).trans ?_
  rw [spread_apply, hz.o H r d, hz.l H r]

/-- The output product. -/
def outProj (a : Out) (wo : FVec Ideal S8192x1024 .f32) : FVec Ideal S1x256x1024 .f32 :=
  Host.dotGeneral dot_S1x256x8192_S8192x1024_S1x256x1024_2_0_01_1_n_n none (shapeCast S1x256x8192 a shapeCasts_S1x256x64x128_S1x256x8192) wo

theorem outProj_apply (a : Out) (wo : FVec Ideal S8192x1024 .f32) (r : Fin 256) (n : Fin 1024) :
    outProj a wo (ix3 0 r n) = ∑ k : Fin 8192, a (ix4 0 r ⟨k.val / 128, by omega⟩ ⟨k.val % 128, by omega⟩) * wo (ix2 k n) := by
  unfold outProj
  pointwise

set_option maxRecDepth 8192 in
/-- The reference's result. -/
theorem res_eq (m : (ℓ : Loc nD τ sig) → Buf (Elt Ideal) ℓ) (c : Dev nD) :
    Value.res_main_v101 (F := Ideal) m c
      = outProj (att (proj (m ((c.tc : Thread nD τ).loc main_arg0)) (m ((c.tc : Thread nD τ).loc main_arg1))) (m ((c.tc : Thread nD τ).loc main_arg2))
          (m ((c.tc : Thread nD τ).loc main_arg3))) (m ((c.tc : Thread nD τ).loc main_arg4)) := rfl

end Cert.RefModel

end
-- ==== Proof.HeadValue.lean ====
/-
# The kernel's attention over the extended reals

The query product, one head's softmax and the device's partial product, read at an index.
-/
module

public import proofs.«01_k».proof.Proof.OnlineSoftmax
public import proofs.«01_k».proof.Proof.Gen.KernelIdeal.Skeleton

@[expose] public section

noncomputable section

namespace Cert.HeadValue

open Cert.KernelIdeal Cert.KernelIdeal.Gen Cert.OnlineSoftmax
open Idealize.ShloMosaic Idealize.ShloMosaic.TcCoe

/-- The scale, as the program's literal reads. -/
def scale : EReal := Ideal.ofBits .f32 0x3DB504F3#32

theorem pay3_apply (x : FVec Ideal S1x256x1024 .f32) (w : FVec Ideal S1024x1024 .f32) (r : Fin 256) (n : Fin 1024) :
    k0_pay3 x w (ix2 r n) = (∑ t : Fin 1024, x (ix3 0 r t) * w (ix2 t n)) * scale := by
  unfold k0_pay3 scale
  pointwise

theorem pay27_apply (w : FVec Ideal S1024x1024 .f32) (a : FVec Ideal S256x1024 .bf16) (r : Fin 256) (n : Fin 1024) :
    (k0_pay27 (F := Ideal) w a (ix2 r n) : EReal) = ∑ k : Fin 1024, a (ix2 r k) * w (ix2 k n) := by
  unfold k0_pay27
  pointwise

theorem pay18_apply (k : FVec Ideal S1x4096x1x128 .f32) (j : Fin 4096) (d : Fin 128) :
    (k0_pay18 (F := Ideal) k (ix2 j d) : EReal) = k (ix4 0 j 0 d) := by
  unfold k0_pay18
  pointwise

theorem drop1 : S256x4096.Reduces [1] S256 := by decide
theorem lift1 (r : Fin 256) (j : Fin 4096) : drop1.lift (ix1 r) j = ix2 r j := by
  funext a
  fin_cases a <;> rfl

theorem ofBits_negInf : Ideal.ofBits .f32 0xFF800000#32 = ⊥ := by
  simp [Ideal.ofBits, Ideal.ieee]

/-- A row's greatest score. -/
theorem top_apply (s : FVec Ideal S256x4096 .f32) (h : S256x4096.Reduces [1] S256) (hφ) (ha) (r : Fin 256) :
    multiReduction .maximumf [1] S256 s 0xFF800000#32 h hφ ha (ix1 r) = Finset.univ.sup fun j : Fin 4096 => s (ix2 r j) := by
  have hf : ∀ {n : ℕ} (f : Fin n → EReal) (b : EReal), b = ⊥ → Finset.univ.fold max b f = Finset.univ.sup f := by
    intro n f b hb
    subst hb
    rfl
  refine ((Ideal.multiReduction_maximumf_single s _ h hφ ha (ix1 r)).trans
    (hf (n := 4096) (fun j => s (drop1.lift (ix1 r) j)) _ ofBits_negInf)).trans ?_
  exact Finset.sup_congr rfl fun j _ => congrArg s (lift1 r j)

/-- A row's sum. -/
theorem sum_apply (s : FVec Ideal S256x4096 .f32) (h : S256x4096.Reduces [1] S256) (hφ) (ha) (r : Fin 256) :
    multiReduction .add [1] S256 s 0x00000000#32 h hφ ha (ix1 r) = ∑ j : Fin 4096, s (ix2 r j) :=
  (Ideal.multiReduction_add_single s _ h hφ ha (ix1 r)).trans (Finset.sum_congr rfl fun j _ => congrArg s (lift1 r j))

theorem wide_apply (R : FVec Ideal S256 .f32) (r : Fin 256) (j : Fin 4096) :
    broadcastTo S256x4096 (shapeCast S256x1 R shapeCasts_S256_S256x1) broadcasts_S256x1_S256x4096 (ix2 r j) = R (ix1 r) := by
  pointwise
theorem narrow_apply (R : FVec Ideal S256 .f32) (r : Fin 256) (d : Fin 128) :
    broadcastTo S256x128 (shapeCast S256x1 R shapeCasts_S256_S256x1) broadcasts_S256x1_S256x128 (ix2 r d) = R (ix1 r) := by
  pointwise
theorem scores_apply (q : FVec Ideal S256x128 .bf16) (k : FVec Ideal S4096x128 .bf16) (r : Fin 256) (j : Fin 4096) :
    matmul dot_S256x128_S4096x128_S256x4096_1_1_0_0_n_n none q k (constant S256x4096 .f32 0x00000000#32) (ix2 r j)
      = ∑ d : Fin 128, q (ix2 r d) * k (ix2 j d) := by
  pointwise
theorem values_apply (p : FVec Ideal S256x4096 .bf16) (v : FVec Ideal S4096x128 .bf16) (r : Fin 256) (d : Fin 128) :
    matmul dot_S256x4096_S4096x128_S256x128_1_0_0_1_n_n none p v (constant S256x128 .f32 0x00000000#32) (ix2 r d)
      = ∑ j : Fin 4096, p (ix2 r j) * v (ix2 j d) := by
  pointwise

theorem same_apply (v : FVec Ideal S256x128 .bf16) (i) : shapeCast S256x128 v shapeCasts_S256x128_S256x128 i = v i := by
  pointwise

/-- One head's output: the softmax over all 4096 keys. -/
theorem pay20_apply (q : FVec Ideal S256x128 .bf16) (k v : FVec Ideal S4096x128 .bf16) (r : Fin 256) (d : Fin 128) :
    (k0_pay20 (F := Ideal) q k v (ix2 r d) : EReal)
      = attn (ext fun j => v (ix2 j d)) (ext fun j => ∑ t : Fin 128, q (ix2 r t) * k (ix2 j t)) := by
  rw [attn_ext]
  have hs : ∀ j : Fin 4096, (∑ t : Fin 128, q (ix2 r t) * k (ix2 j t))
      = matmul dot_S256x128_S4096x128_S256x4096_1_1_0_0_n_n none q k (constant S256x4096 .f32 0x00000000#32) (ix2 r j) :=
    fun j => (scores_apply q k r j).symm
  simp only [hs]
  unfold k0_pay20
  generalize matmul dot_S256x128_S4096x128_S256x4096_1_1_0_0_n_n none q k (constant S256x4096 .f32 0x00000000#32) = s
  have hp : ∀ j : Fin 4096, exp (subf s (broadcastTo S256x4096 (shapeCast S256x1
      (multiReduction .maximumf [1] S256 s 0xFF800000#32 reduces_S256x4096_S256 (.inl rfl) rfl) shapeCasts_S256_S256x1) broadcasts_S256x1_S256x4096)) (ix2 r j)
      = Ideal.exp (s (ix2 r j) - Finset.univ.sup fun j : Fin 4096 => s (ix2 r j)) := fun j =>
    congrArg (fun z => Ideal.exp (s (ix2 r j) - z)) ((wide_apply _ r j).trans (top_apply s _ _ _ r))
  refine (same_apply _ _).trans ?_
  refine congrArg₂ Ideal.div ((values_apply _ v r d).trans ?_) ((narrow_apply _ r d).trans ((sum_apply _ _ _ _ r).trans ?_))
  · exact Finset.sum_congr rfl fun j _ => congrArg (· * v (ix2 j d)) (hp j)
  · exact Finset.sum_congr rfl fun j _ => hp j

/-- The scale is a finite number, not negative. -/
theorem scale_nonneg : 0 ≤ scale ∧ scale ≠ ⊤ := by
  have h : ∃ x : ℝ, 0 ≤ x ∧ scale = (x : EReal) := by
    unfold scale
    simp [Ideal.ofBits, Ideal.ieee]
    exact ⟨11863283 * (2 ^ 27)⁻¹, by positivity, (EReal.coe_mul _ _).symm⟩
  obtain ⟨x, h0, h⟩ := h
  rw [h]
  exact ⟨EReal.coe_nonneg.mpr h0, EReal.coe_ne_top x⟩

/-- Scaling the query scales the score. -/
theorem score_scale {n : ℕ} (q k : Fin n → EReal) : (∑ t, q t * scale * k t) = (∑ t, q t * k t) * scale := by
  rw [sum_mul_right _ _ scale_nonneg.1 scale_nonneg.2]
  exact Finset.sum_congr rfl fun t _ => mul_right_comm _ _ _

end Cert.HeadValue

end
-- ==== Proof.PartialValue.lean ====
/-
# One device's partial product over the extended reals

The device's eight heads are heads `8 * c .. 8 * c + 7` of the caches; their attention, side by side, times the device's block of the
output weights.
-/
module

public import proofs.«01_k».proof.Proof.HeadValue
public import proofs.«01_k».proof.Proof.KernelIdealBody

@[expose] public section

noncomputable section

namespace Cert.PartialValue

open Cert.KernelIdeal Cert.KernelIdeal.Gen Cert.KernelIdealProof Cert.OnlineSoftmax Cert.HeadValue
open Idealize.ShloMosaic Idealize.ShloMosaic.TcCoe Idealize.ShloMosaic.ValueKit

/-- Where device `c`'s four heads of half `g` begin. -/
theorem off1_eq : ∀ (c : Dev nD) (g : Fin 2) (a : Fin 4), k0_off1 c (BitVec.ofNat 32 (4 * g.val)) a = (![0, 0, 8 * c.val + 4 * g.val, 0] : Fin 4 → ℕ) a := by
  decide +kernel

/-- Head `h` of device `c`, among all 64. -/
def hd (c : Dev nD) (h : Fin 8) : Fin 64 := ⟨8 * c.val + h.val, by have := c.isLt; have := h.isLt; change c.val < 8 at *; omega⟩

/-- The place of a head's loads in a whole cache. -/
theorem src_emb (c : Dev nD) (h : Fin 8) (j : Fin 4096) (t : Fin 128) :
    (Rect.unit (s := S1x4096x64x128) (k0_off1 c (BitVec.ofNat 32 (4 * (hg h).val))) S1x4096x4x128.size (k0_off1_inb c (hg h))).emb
      (ValueIdx.ix4 (⟨0, Nat.one_pos⟩ : Fin 1) j (hj h) t : S1x4096x4x128.Idx) = ix4 0 j (hd c h) t := by
  funext a
  refine Fin.ext ?_
  rw [rect_emb_unit_val, off1_eq]
  fin_cases a
  · rfl
  · exact Nat.zero_add _
  · show 8 * c.val + 4 * (h.val / 4) + h.val % 4 = 8 * c.val + h.val
    omega
  · exact Nat.zero_add _

/-- A head's keys, as loaded. -/
theorem keys_apply (c : Dev nD) (h : Fin 8) (f : kA.view.ty.Contents (Elt Ideal)) (j : Fin 4096) (t : Fin 128) :
    head4 (F := Ideal) (hj h) ((src4 kA c (hg h)).view.read (Elt Ideal) f) (ix4 0 j 0 t) = f (ix4 0 j (hd c h) t) := by
  refine Eq.trans (b := f ((Rect.unit (s := S1x4096x64x128) (k0_off1 c (BitVec.ofNat 32 (4 * (hg h).val))) S1x4096x4x128.size (k0_off1_inb c (hg h))).emb
    (Shape.reshapeEquiv _ (ValueIdx.ix3 j (hj h) t)))) rfl ?_
  rw [ValueIdx.reshapeEquiv_ix3_1abc, src_emb]
/-- And its values. -/
theorem vals_apply (c : Dev nD) (h : Fin 8) (f : vA.view.ty.Contents (Elt Ideal)) (j : Fin 4096) (t : Fin 128) :
    head4 (F := Ideal) (hj h) ((src4 vA c (hg h)).view.read (Elt Ideal) f) (ix4 0 j 0 t) = f (ix4 0 j (hd c h) t) := by
  refine Eq.trans (b := f ((Rect.unit (s := S1x4096x64x128) (k0_off1 c (BitVec.ofNat 32 (4 * (hg h).val))) S1x4096x4x128.size (k0_off1_inb c (hg h))).emb
    (Shape.reshapeEquiv _ (ValueIdx.ix3 j (hj h) t)))) rfl ?_
  rw [ValueIdx.reshapeEquiv_ix3_1abc, src_emb]

/-- Column `t` of head `h`'s 128. -/
def qc (h : Fin 8) (t : Fin 128) : Fin 1024 := ⟨128 * h.val + t.val, by omega⟩

/-- A head's columns of the query product. -/
theorem query_apply (h : Fin 8) (q : FVec Ideal S256x1024 .f32) (r : Fin 256) (t : Fin 128) :
    extractStridedSlice S256x128 (qOff h) q (q_slices h) (ix2 r t) = q (ix2 r (qc h t)) := by
  unfold extractStridedSlice
  refine congrArg q ?_
  funext a
  refine Fin.ext ?_
  fin_cases a
  · exact Nat.zero_add _
  · rfl

/-- One head's output. -/
theorem headOut_apply (h : Fin 8) (q : FVec Ideal S256x1024 .f32) (k v : FVec Ideal S1x4096x1x128 .f32) (r : Fin 256) (d : Fin 128) :
    (headOut (F := Ideal) h q k v (ix2 r d) : EReal)
      = attn (ext fun j => v (ix4 0 j 0 d)) (ext fun j => ∑ t : Fin 128, q (ix2 r (qc h t)) * k (ix4 0 j 0 t)) := by
  unfold headOut
  rw [pay20_apply]
  refine congrArg₂ attn (congrArg ext (funext fun j => pay18_apply v j d)) (congrArg ext (funext fun j => Finset.sum_congr rfl fun t _ => ?_))
  exact congrArg₂ (· * ·) (query_apply h q r t) (pay18_apply k j t)

/-- The device's heads: the attention over the heads `8 * c ..` of the caches. -/
theorem headsOf_apply (c : Dev nD) (q : FVec Ideal S256x1024 .f32) (fk : Buf (Elt Ideal) (kA.view.loc (c : Thread nD τ)))
    (fv : Buf (Elt Ideal) (vA.view.loc (c : Thread nD τ))) (h : Fin 8) (r : Fin 256) (d : Fin 128) :
    (headsOf (F := Ideal) c q fk fv h (ix2 r d) : EReal)
      = attn (ext fun j => (fv (ix4 0 j (hd c h) d) : EReal)) (ext fun j => ∑ t : Fin 128, q (ix2 r (qc h t)) * (fk (ix4 0 j (hd c h) t) : EReal)) := by
  unfold headsOf
  rw [headOut_apply]
  refine congrArg₂ attn (congrArg ext (funext fun j => vals_apply c h fv j d)) (congrArg ext (funext fun j => Finset.sum_congr rfl fun t _ => ?_))
  exact congrArg (q (ix2 r (qc h t)) * ·) (keys_apply c h fk j t)

/-- The device's partial product. -/
theorem acc0_apply (m : (ℓ : Loc nD τ sig) → Buf (Elt Ideal) ℓ) (ρ : Dev nD → PrngReg) (c : Dev nD) (r : Fin 256) (n : Fin 1024) :
    (acc0 m ρ c (ix2 r n) : EReal)
      = ∑ k : Fin 1024, (headsOf (F := Ideal) c (k0_pay3 (xstg m ρ c) (qstg m ρ c)) (kbuf m ρ c) (vbuf m ρ c) ⟨k.val / 128, by omega⟩
          (ix2 r ⟨k.val % 128, Nat.mod_lt _ (by decide)⟩) : EReal) * ostg m ρ c (ix2 k n) :=
  pay27_apply _ _ r n

end Cert.PartialValue

end
-- ==== Proof.ExchangeValue.lean ====
/-
# What the exchanges compute over the extended reals

Three exchanges add, three copy; after the six every device's accumulator holds, at each place, the sum of all eight devices'
partial products there.
-/
module

public import proofs.«01_k».proof.Proof.KernelIdealContents
public import Idealize.ShloMosaic.PureOps.Ideal.Laws

@[expose] public section

noncomputable section

namespace Cert.ExchangeValue

open Cert.KernelIdeal Cert.KernelIdeal.Gen Cert.KernelIdealProof
open Idealize.ShloMosaic Idealize.ShloMosaic.TcCoe Idealize.ShloMosaic.ValueKit

/-- Whether block `b` of 32 rows is among the rows that round `r` stores on device `c`. -/
def hit (r : Fin 6) (c : Dev nD) (b : Fin 8) : Bool := decide (kpOff r c 0 ≤ 32 * b.val) && decide (32 * b.val < kpOff r c 0 + (sh r).size 0)

/-- A row is among the stored ones exactly when its block is. -/
theorem hit_iff : ∀ (r : Fin 6) (c : Dev nD) (b : Fin 8), kpOff r c 0 % 32 = 0 ∧ (sh r).size 0 % 32 = 0 := by decide +kernel
/-- All columns are. -/
theorem kp_cols : ∀ (r : Fin 6) (c : Dev nD), kpOff r c 1 = 0 ∧ (sh r).size 1 = 1024 := by decide +kernel
/-- The partner sends the rows that the device stores into. -/
theorem snd_pr : ∀ (r : Fin 6) (c : Dev nD) (a : Fin 2), sndOff r (pr (mk r) c) a = kpOff r c a := by decide +kernel

/-- The block of a row. -/
def rb (i : S256x1024.Idx) : Fin 8 := ⟨(i 0).val / 32, by have := (i 0).isLt; exact Nat.div_lt_of_lt_mul this⟩

theorem mem_kp (r : Fin 6) (c : Dev nD) (i : S256x1024.Idx) : i ∈ (kpRect r c).set ↔ hit r c (rb i) = true := by
  obtain ⟨h1, h2⟩ := hit_iff r c (rb i)
  obtain ⟨h3, h4⟩ := kp_cols r c
  rw [Rect.mem_set_unit]
  unfold hit rb
  simp only [Bool.and_eq_true, decide_eq_true_eq]
  have h5 : (i 1).val < 1024 := (i 1).isLt
  constructor
  · intro h
    have h0 : kpOff r c 0 ≤ (i 0).val ∧ (i 0).val < kpOff r c 0 + half r := h 0
    change half r % 32 = 0 at h2
    show kpOff r c 0 ≤ 32 * ((i 0).val / 32) ∧ 32 * ((i 0).val / 32) < kpOff r c 0 + half r
    omega
  · intro h a
    change half r % 32 = 0 at h2
    change kpOff r c 0 ≤ 32 * ((i 0).val / 32) ∧ 32 * ((i 0).val / 32) < kpOff r c 0 + half r at h
    fin_cases a
    · show kpOff r c 0 ≤ (i 0 : ℕ) ∧ (i 0 : ℕ) < kpOff r c 0 + half r
      omega
    · show kpOff r c 1 ≤ (i 1 : ℕ) ∧ (i 1 : ℕ) < kpOff r c 1 + 1024
      omega

/-- An accumulator's entry, as an extended real. -/
def ev (a : Acc Ideal) (i : S256x1024.Idx) : EReal := a i

/-- What a round puts on the wire, over the extended reals: the rows read. -/
theorem blk_ideal (r : Fin 6) (a : (sh r).Idx → Elt Ideal .f32) (y : (sh r).Idx) : (blk r a y : EReal) = a y := by
  unfold blk
  rw [shapeCast_self]
  rfl

/-- What a round stores, over the extended reals. -/
theorem comb_ideal (r : Fin 6) (a : (sh r).Idx → Elt Ideal .f32) (b : (sh r).Idx → Elt Ideal .bf16) (y : (sh r).Idx) :
    (comb r a b y : EReal) = if r.val < 3 then ((a y : EReal) + (b y : EReal) : EReal) else b y := by
  unfold comb
  split
  · rw [shapeCast_self]
    rfl
  · rw [shapeCast_self]
    rfl

/-- The partner's sent rows lie where the device's stored rows do. -/
theorem emb_pr (r : Fin 6) (c : Dev nD) (y : (sh r).Idx) : (sndRect r (pr (mk r) c)).emb y = (kpRect r c).emb y := by
  funext a
  apply Fin.ext
  unfold sndRect kpRect
  rw [rect_emb_unit_val, rect_emb_unit_val, snd_pr]

/-- One exchange at a place. -/
theorem step_apply (r : Fin 6) (a : Dev nD → Acc Ideal) (c : Dev nD) (i : S256x1024.Idx) :
    ev (step r a c) i = if hit r c (rb i) then (if r.val < 3 then ev (a c) i + ev (a (pr (mk r) c)) i else ev (a (pr (mk r) c)) i) else ev (a c) i := by
  by_cases h : i ∈ (kpRect r c).set
  · rw [if_pos ((mem_kp r c i).mp h)]
    obtain ⟨y, rfl⟩ : ∃ y, (kpRect r c).emb y = i := by
      rw [← Rect.map_emb_univ] at h
      obtain ⟨y, -, hy⟩ := Finset.mem_map.mp h
      exact ⟨y, hy⟩
    have e1 : ev (step r a c) ((kpRect r c).emb y) = (comb r ((accM.access (kpRect r c)).read (Elt Ideal) (a c)) (sentOf r (pr (mk r) c) (a (pr (mk r) c))) y : EReal) :=
      View.write_emb_of_mem (v := accM.access (kpRect r c)) (a c) _ (Finset.mem_univ y)
    have e2 : (sentOf r (pr (mk r) c) (a (pr (mk r) c)) y : EReal) = ev (a (pr (mk r) c)) ((kpRect r c).emb y) := by
      unfold sentOf
      rw [blk_ideal, ← emb_pr]
      rfl
    rw [e1, comb_ideal, e2]
    rfl
  · rw [if_neg (fun h' => h ((mem_kp r c i).mpr h'))]
    refine View.write_of_not_mem (v := accM.access (kpRect r c)) (a c) _ Finset.univ ?_
    intro h'
    rw [View.setOn_univ] at h'
    obtain ⟨y, -, hy⟩ := Finset.mem_map.mp h'
    refine h ?_
    rw [← Rect.map_emb_univ]
    exact Finset.mem_map.mpr ⟨y, Finset.mem_univ y, hy⟩

/-- Whose partial products a device's accumulator holds at a block of rows after `n` exchanges. -/
def who : ℕ → Dev nD → Fin 8 → List (Fin 8)
  | 0, c, _ => [c]
  | n + 1, c, b => if h : n < 6 then
      (if hit ⟨n, h⟩ c b then (if n < 3 then who n c b ++ who n (pr (mk ⟨n, h⟩) c) b else who n (pr (mk ⟨n, h⟩) c) b) else who n c b)
    else who n c b

theorem who_six : ∀ (c : Dev nD) (b : Fin 8), (who 6 c b).Perm (List.finRange 8) := by decide +kernel

theorem accAt_apply (a : Dev nD → Acc Ideal) (n : ℕ) (hn : n ≤ 6) (c : Dev nD) (i : S256x1024.Idx) :
    ev (accAt a n c) i = ((who n c (rb i)).map fun d => ev (a d) i).sum := by
  induction n generalizing c with
  | zero => simp [accAt, who]
  | succ n ih =>
    have h : n < 6 := by omega
    have e : accAt a (n + 1) c = step ⟨n, h⟩ (accAt a n) c := accAt_succ a ⟨n, h⟩ c
    rw [e, step_apply, ih (by omega), ih (by omega)]
    simp only [who, h, dif_pos]
    split
    · split
      · rw [List.map_append, List.sum_append]
      · rfl
    · rfl

/-- After the six exchanges: the sum over the devices. -/
theorem accAt_six (a : Dev nD → Acc Ideal) (c : Dev nD) (i : S256x1024.Idx) : ev (accAt a 6 c) i = ∑ d : Fin 8, ev (a d) i := by
  rw [accAt_apply a 6 le_rfl, ((who_six c (rb i)).map _).sum_eq, ← List.ofFn_eq_map, List.sum_ofFn]

end Cert.ExchangeValue

end
-- ==== Proof.Value.lean ====
/-
# The value

Device `c` holds columns `1024 * c ..` of the query weights and rows `1024 * c ..` of the output weights: the columns and the rows of
heads `8 * c .. 8 * c + 7`. Its partial product is the part of the reference's last sum over those rows, and the exchanges add the eight
parts.
-/
module

public import proofs.«01_k».proof.Defs
public import proofs.«01_k».proof.Proof.RefModel
public import proofs.«01_k».proof.Proof.PartialValue
public import proofs.«01_k».proof.Proof.ExchangeValue
public import proofs.«01_k».proof.Proof.KernelIdealLaunch

@[expose] public section

noncomputable section

namespace Cert.Value

open Cert.OnlineSoftmax Cert.PartialValue Cert.KernelIdealProof Cert.ExchangeValue
open Idealize.ShloMosaic Idealize.ShloMosaic.TcCoe Idealize.SL.Sem

abbrev X := FVec Ideal ⟨3, ![1, 256, 1024]⟩ .f32
abbrev QW := FVec Ideal ⟨2, ![1024, 8192]⟩ .f32
abbrev OW := FVec Ideal ⟨2, ![8192, 1024]⟩ .f32
abbrev Cache := FVec Ideal ⟨4, ![1, 4096, 64, 128]⟩ .f32
/-- A device's share of either weight. -/
abbrev Share := FVec Ideal ⟨2, ![1024, 1024]⟩ .f32

/-- Device `c`'s share of the query weights, and of the output weights. -/
def qw (w : QW) (c : Fin 8) : Share := Layout.block ⟨2, ![1024, 1024]⟩ ⟨2, ![1024, 8192]⟩ 1 8 c w
def ow (w : OW) (c : Fin 8) : Share := Layout.block ⟨2, ![1024, 1024]⟩ ⟨2, ![8192, 1024]⟩ 0 8 c w

/-- Place `k` of device `c`'s, among all 8192. -/
def at8 (c : Fin 8) (k : Fin 1024) : Fin 8192 := ⟨1024 * c.val + k.val, by omega⟩

theorem qw_apply (w : QW) (c : Fin 8) (t k : Fin 1024) : qw w c (ix2 t k) = w (ix2 t (at8 c k)) := by
  refine congrArg w ?_
  funext a
  refine Fin.ext ?_
  fin_cases a
  · rfl
  · show c.val * 1024 + k.val = 1024 * c.val + k.val
    omega
theorem ow_apply (w : OW) (c : Fin 8) (k n : Fin 1024) : ow w c (ix2 k n) = w (ix2 (at8 c k) n) := by
  refine congrArg w ?_
  funext a
  refine Fin.ext ?_
  fin_cases a
  · show c.val * 1024 + k.val = 1024 * c.val + k.val
    omega
  · rfl

/-- The sum over 8192 places, device by device. -/
theorem sum_at8 (f : Fin 8192 → EReal) : ∑ k, f k = ∑ c : Fin 8, ∑ k : Fin 1024, f (at8 c k) := by
  rw [← Fintype.sum_prod_type' (f := fun (c : Fin 8) (k : Fin 1024) => f (at8 c k))]
  refine (Fintype.sum_equiv (finProdFinEquiv (m := 8) (n := 1024)) _ _ fun x => congrArg f ?_).symm
  refine Fin.ext ?_
  show 1024 * x.1.val + x.2.val = x.2.val + 1024 * x.1.val
  omega

/-- One head's output on the device that has it: the reference's. -/
theorem head_eq (x : X) (wq : QW) (k v : Cache) (c : Fin 8) (h : Fin 8) (r : Fin 256) (d : Fin 128) :
    (headsOf (F := Ideal) c (Cert.KernelIdeal.Gen.k0_pay3 (F := Ideal) x (qw wq c)) k v h (ix2 r d) : EReal)
      = Cert.RefModel.att (Cert.RefModel.proj x wq) k v (ix4 0 r (hd c h) d) := by
  rw [headsOf_apply, Cert.RefModel.att_apply]
  refine congrArg₂ attn rfl (congrArg ext (funext fun j => ?_))
  have hq : ∀ t : Fin 128, (∑ s : Fin 1024, x (ix3 0 r s) * qw wq c (ix2 s (qc h t))) = Cert.RefModel.proj x wq (ix4 0 r (hd c h) t) := by
    intro t
    rw [Cert.RefModel.proj_apply]
    refine Finset.sum_congr rfl fun s _ => congrArg (x (ix3 0 r s) * ·) ((qw_apply wq c s (qc h t)).trans (congrArg (fun z => wq (ix2 s z)) ?_))
    refine Fin.ext ?_
    show 1024 * c.val + (128 * h.val + t.val) = (8 * c.val + h.val) * 128 + t.val
    omega
  unfold Cert.RefModel.row
  refine (Finset.sum_congr rfl fun t _ => congrArg (· * k (ix4 0 j (hd c h) t)) ((Cert.HeadValue.pay3_apply x (qw wq c) r (qc h t)).trans
    (congrArg (· * Cert.HeadValue.scale) (hq t)))).trans ?_
  exact Cert.HeadValue.score_scale _ _

/-- A device's partial product is its part of the reference's last sum. -/
theorem part_eq (x : X) (wq : QW) (k v : Cache) (wo : OW) (c : Fin 8) (r : Fin 256) (n : Fin 1024) :
    (∑ i : Fin 1024, (headsOf (F := Ideal) c (Cert.KernelIdeal.Gen.k0_pay3 (F := Ideal) x (qw wq c)) k v ⟨i.val / 128, by omega⟩
        (ix2 r ⟨i.val % 128, Nat.mod_lt _ (by decide)⟩) : EReal) * ow wo c (ix2 i n))
      = ∑ i : Fin 1024, Cert.RefModel.att (Cert.RefModel.proj x wq) k v
          (ix4 0 r ⟨(at8 c i).val / 128, by omega⟩ ⟨(at8 c i).val % 128, Nat.mod_lt _ (by decide)⟩) * wo (ix2 (at8 c i) n) := by
  refine Finset.sum_congr rfl fun i _ => congrArg₂ (· * ·) ((head_eq x wq k v c _ r _).trans ?_) (ow_apply wo c i n)
  refine congrArg₂ (fun a b => Cert.RefModel.att (Cert.RefModel.proj x wq) k v (ix4 0 r a b)) (Fin.ext ?_) (Fin.ext ?_)
  · show 8 * c.val + i.val / 128 = (1024 * c.val + i.val) / 128
    omega
  · show i.val % 128 = (1024 * c.val + i.val) % 128
    omega

/-- The devices' partial products add up to the reference's result. -/
theorem parts_sum (x : X) (wq : QW) (k v : Cache) (wo : OW) (r : Fin 256) (n : Fin 1024) :
    (∑ c : Fin 8, ∑ i : Fin 1024, (headsOf (F := Ideal) c (Cert.KernelIdeal.Gen.k0_pay3 (F := Ideal) x (qw wq c)) k v ⟨i.val / 128, by omega⟩
        (ix2 r ⟨i.val % 128, Nat.mod_lt _ (by decide)⟩) : EReal) * ow wo c (ix2 i n))
      = Cert.RefModel.outProj (Cert.RefModel.att (Cert.RefModel.proj x wq) k v) wo (ix3 0 r n) := by
  rw [Cert.RefModel.outProj_apply, sum_at8]
  exact Finset.sum_congr rfl fun c _ => part_eq x wq k v wo c r n

/-- The result's shape is the accumulator's with a leading axis of one. -/
theorem pay2_apply (a : FVec Ideal ⟨2, ![256, 1024]⟩ .f32) (r : Fin 256) (n : Fin 1024) :
    (Cert.KernelIdeal.Gen.k0_pay2 (F := Ideal) a (ix3 0 r n) : EReal) = a (ix2 r n) := by
  unfold Cert.KernelIdeal.Gen.k0_pay2
  pointwise

attribute [local irreducible] accAt acc0 outAt in
/-- What every device's result holds, where the devices start with their shares of the reference's arguments. -/
theorem outAt_eq (m : (ℓ : Loc Cert.KernelIdeal.nD Cert.KernelIdeal.τ Cert.KernelIdeal.sig) → Buf (Elt Ideal) ℓ) (ρ : Dev Cert.KernelIdeal.nD → PrngReg)
    (x : X) (wq : QW) (k v : Cache) (wo : OW)
    (hx : ∀ c, xstg m ρ c = x) (hq : ∀ c, qstg m ρ c = qw wq c) (hk : ∀ c, kbuf m ρ c = k) (hv : ∀ c, vbuf m ρ c = v) (ho : ∀ c, ostg m ρ c = ow wo c)
    (c : Dev Cert.KernelIdeal.nD) :
    outAt m ρ c = Cert.RefModel.outProj (Cert.RefModel.att (Cert.RefModel.proj x wq) k v) wo := by
  have e : ∀ (r : Fin 256) (n : Fin 1024), (outAt m ρ c (ix3 0 r n) : EReal)
      = Cert.RefModel.outProj (Cert.RefModel.att (Cert.RefModel.proj x wq) k v) wo (ix3 0 r n) := by
    intro r n
    have h1 : (outAt m ρ c (ix3 0 r n) : EReal) = ev (accAt (acc0 m ρ) 6 c) (ix2 r n) := by
      unfold outAt
      exact pay2_apply (accAt (acc0 m ρ) 6 c) r n
    have h2 : ∀ d : Fin 8, ev (acc0 m ρ d) (ix2 r n)
        = ∑ i : Fin 1024, (headsOf (F := Ideal) d (Cert.KernelIdeal.Gen.k0_pay3 (F := Ideal) x (qw wq d)) k v ⟨i.val / 128, by omega⟩
          (ix2 r ⟨i.val % 128, Nat.mod_lt _ (by decide)⟩) : EReal) * ow wo d (ix2 i n) := by
      intro d
      have h3 := acc0_apply m ρ d r n
      rw [hx, hq, hk, hv, ho] at h3
      exact h3
    have h4 : ev (accAt (acc0 m ρ) 6 c) (ix2 r n) = ∑ d : Fin 8, ev (acc0 m ρ d) (ix2 r n) := accAt_six (acc0 m ρ) c (ix2 r n)
    have h5 : ∑ d : Fin 8, ev (acc0 m ρ d) (ix2 r n) = Cert.RefModel.outProj (Cert.RefModel.att (Cert.RefModel.proj x wq) k v) wo (ix3 0 r n) :=
      (Finset.sum_congr rfl fun d _ => h2 d).trans (parts_sum x wq k v wo r n)
    exact h1.trans (h4.trans h5)
  funext i
  have hi : i = ix3 (0 : Fin 1) (i 1) (i 2) := by
    funext a
    fin_cases a
    · exact Subsingleton.elim (α := Fin 1) _ _
    · rfl
    · rfl
  rw [hi]
  exact e (i 1) (i 2)

/-- Every device's result is the reference's. -/
theorem value : Cert.algebraic_KernelIdeal_ReferenceIdeal := by
  intro m ρ m' ρ' _ hm
  refine ⟨Cert.ReferenceIdeal.Value.res_main_v101 (F := Ideal) m' 0, ?_, ?_⟩
  · refine (θ_run Cert.KernelIdeal.defs _ _).mono (fun r h c => ⟨?_, args_kept m ρ h.1 c⟩) (run_main (F := Ideal) m ρ)
    refine (h.1.1 c (3 : Fin 4)).trans ((finalA_out m ρ c).trans ((outAt_eq m ρ _ _ _ _ _ ?_ ?_ ?_ ?_ ?_ c).trans (Cert.RefModel.res_eq m' 0).symm))
    · exact fun d => (xstg_eq m ρ d).trans (hm d).1
    · exact fun d => (qstg_eq m ρ d).trans (hm d).2.1
    · exact fun d => (hm d).2.2.1
    · exact fun d => (hm d).2.2.2.1
    · exact fun d => (ostg_eq m ρ d).trans (hm d).2.2.2.2
  · exact (θ_run Cert.ReferenceIdeal.defs _ _).mono (fun r h => h 0) (Cert.ReferenceIdeal.Value.run (F := Ideal) m' ρ')

end Cert.Value

end
-- ==== Proof.lean ====
/-
# The certificate

The frames of the three programs, the preservation and the value.
-/
module

public import proofs.«01_k».proof.Proof.Frames
public import proofs.«01_k».proof.Proof.Value

@[expose] public section

noncomputable section

namespace Cert.Proof

open Idealize.ShloMosaic Idealize.SL.Sem Cert.Kernel

/-- The claim of the certificate. -/
theorem claim : Cert.Claim := ⟨Cert.Kernel.Gen.facts, Cert.KernelIdeal.Gen.facts, Cert.ReferenceIdeal.Gen.facts, Cert.Frames.kernel, Cert.Frames.kernelIdeal, Cert.Frames.referenceIdeal, trivial, Cert.Value.value⟩

end Cert.Proof

end
